-- ==== Defs.lean ====
def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_CmpKernel (m : (ℓ : Loc Cert.CmpKernel.nD Cert.CmpKernel.τ Cert.CmpKernel.sig) → Buf (Elt Bits) ℓ) : Prop :=
  True

def Pre_CmpKernelIdeal (m : (ℓ : Loc Cert.CmpKernelIdeal.nD Cert.CmpKernelIdeal.τ Cert.CmpKernelIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_CmpKernel [hCmpKernel : Cert.CmpKernel.Facts] : Prop :=
  ∀ (m : (ℓ : Loc Cert.CmpKernel.nD Cert.CmpKernel.τ Cert.CmpKernel.sig) → Buf (Elt Bits) ℓ) (g : Dev Cert.CmpKernel.nD → PrngReg), Pre_CmpKernel m →
    θ_run (Cert.CmpKernel.defs (F := Bits)) (onTc (τ := Cert.CmpKernel.τ) (Cert.CmpKernel.main (F := Bits))) ⟨m, fun _ => 0, g⟩ (fun r => (∀ c : Dev Cert.CmpKernel.nD,
      r.2.mem ((c.tc : Thread Cert.CmpKernel.nD Cert.CmpKernel.τ).loc Cert.CmpKernel.main_arg0) = m ((c.tc : Thread Cert.CmpKernel.nD Cert.CmpKernel.τ).loc Cert.CmpKernel.main_arg0)
      ∧ r.2.mem ((c.tc : Thread Cert.CmpKernel.nD Cert.CmpKernel.τ).loc Cert.CmpKernel.main_arg1) = m ((c.tc : Thread Cert.CmpKernel.nD Cert.CmpKernel.τ).loc Cert.CmpKernel.main_arg1)
      ∧ r.2.mem ((c.tc : Thread Cert.CmpKernel.nD Cert.CmpKernel.τ).loc Cert.CmpKernel.main_arg2) = m ((c.tc : Thread Cert.CmpKernel.nD Cert.CmpKernel.τ).loc Cert.CmpKernel.main_arg2)
      ∧ r.2.mem ((c.tc : Thread Cert.CmpKernel.nD Cert.CmpKernel.τ).loc Cert.CmpKernel.main_arg3) = m ((c.tc : Thread Cert.CmpKernel.nD Cert.CmpKernel.τ).loc Cert.CmpKernel.main_arg3)
      ∧ r.2.mem ((c.tc : Thread Cert.CmpKernel.nD Cert.CmpKernel.τ).loc Cert.CmpKernel.main_arg4) = m ((c.tc : Thread Cert.CmpKernel.nD Cert.CmpKernel.τ).loc Cert.CmpKernel.main_arg4)
      ∧ r.2.mem ((c.tc : Thread Cert.CmpKernel.nD Cert.CmpKernel.τ).loc Cert.CmpKernel.main_arg5) = m ((c.tc : Thread Cert.CmpKernel.nD Cert.CmpKernel.τ).loc Cert.CmpKernel.main_arg5)
      ∧ r.2.mem ((c.tc : Thread Cert.CmpKernel.nD Cert.CmpKernel.τ).loc Cert.CmpKernel.main_arg6) = m ((c.tc : Thread Cert.CmpKernel.nD Cert.CmpKernel.τ).loc Cert.CmpKernel.main_arg6)
      ∧ r.2.mem ((c.tc : Thread Cert.CmpKernel.nD Cert.CmpKernel.τ).loc Cert.CmpKernel.main_arg7) = m ((c.tc : Thread Cert.CmpKernel.nD Cert.CmpKernel.τ).loc Cert.CmpKernel.main_arg7))
      ∧ r.2.sem = fun _ => 0)

def quiescent_CmpKernelIdeal [hCmpKernelIdeal : Cert.CmpKernelIdeal.Facts] : Prop :=
  ∀ (m : (ℓ : Loc Cert.CmpKernelIdeal.nD Cert.CmpKernelIdeal.τ Cert.CmpKernelIdeal.sig) → Buf (Elt Ideal) ℓ) (g : Dev Cert.CmpKernelIdeal.nD → PrngReg), Pre_CmpKernelIdeal m →
    θ_run (Cert.CmpKernelIdeal.defs (F := Ideal)) (onTc (τ := Cert.CmpKernelIdeal.τ) (Cert.CmpKernelIdeal.main (F := Ideal))) ⟨m, fun _ => 0, g⟩ (fun r => (∀ c : Dev Cert.CmpKernelIdeal.nD,
      r.2.mem ((c.tc : Thread Cert.CmpKernelIdeal.nD Cert.CmpKernelIdeal.τ).loc Cert.CmpKernelIdeal.main_arg0) = m ((c.tc : Thread Cert.CmpKernelIdeal.nD Cert.CmpKernelIdeal.τ).loc Cert.CmpKernelIdeal.main_arg0)
      ∧ r.2.mem ((c.tc : Thread Cert.CmpKernelIdeal.nD Cert.CmpKernelIdeal.τ).loc Cert.CmpKernelIdeal.main_arg1) = m ((c.tc : Thread Cert.CmpKernelIdeal.nD Cert.CmpKernelIdeal.τ).loc Cert.CmpKernelIdeal.main_arg1)
      ∧ r.2.mem ((c.tc : Thread Cert.CmpKernelIdeal.nD Cert.CmpKernelIdeal.τ).loc Cert.CmpKernelIdeal.main_arg2) = m ((c.tc : Thread Cert.CmpKernelIdeal.nD Cert.CmpKernelIdeal.τ).loc Cert.CmpKernelIdeal.main_arg2)
      ∧ r.2.mem ((c.tc : Thread Cert.CmpKernelIdeal.nD Cert.CmpKernelIdeal.τ).loc Cert.CmpKernelIdeal.main_arg3) = m ((c.tc : Thread Cert.CmpKernelIdeal.nD Cert.CmpKernelIdeal.τ).loc Cert.CmpKernelIdeal.main_arg3)
      ∧ r.2.mem ((c.tc : Thread Cert.CmpKernelIdeal.nD Cert.CmpKernelIdeal.τ).loc Cert.CmpKernelIdeal.main_arg4) = m ((c.tc : Thread Cert.CmpKernelIdeal.nD Cert.CmpKernelIdeal.τ).loc Cert.CmpKernelIdeal.main_arg4)
      ∧ r.2.mem ((c.tc : Thread Cert.CmpKernelIdeal.nD Cert.CmpKernelIdeal.τ).loc Cert.CmpKernelIdeal.main_arg5) = m ((c.tc : Thread Cert.CmpKernelIdeal.nD Cert.CmpKernelIdeal.τ).loc Cert.CmpKernelIdeal.main_arg5)
      ∧ r.2.mem ((c.tc : Thread Cert.CmpKernelIdeal.nD Cert.CmpKernelIdeal.τ).loc Cert.CmpKernelIdeal.main_arg6) = m ((c.tc : Thread Cert.CmpKernelIdeal.nD Cert.CmpKernelIdeal.τ).loc Cert.CmpKernelIdeal.main_arg6)
      ∧ r.2.mem ((c.tc : Thread Cert.CmpKernelIdeal.nD Cert.CmpKernelIdeal.τ).loc Cert.CmpKernelIdeal.main_arg7) = m ((c.tc : Thread Cert.CmpKernelIdeal.nD Cert.CmpKernelIdeal.τ).loc Cert.CmpKernelIdeal.main_arg7))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7))
      ∧ r.2.sem = fun _ => 0)

def preserves_RetKernel_RetKernelIdeal : Prop :=
  True

def algebraic_RetKernelIdeal_RetRefIdeal [hRetKernelIdeal : Cert.RetKernelIdeal.Facts] [hRetRefIdeal : Cert.RetRefIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetKernelIdeal m →
    (∀ c : Dev Cert.RetKernelIdeal.nD,
      m' ((c.tc : Thread Cert.RetRefIdeal.nD Cert.RetRefIdeal.τ).loc Cert.RetRefIdeal.main_arg0) = m ((c.tc : Thread Cert.RetKernelIdeal.nD Cert.RetKernelIdeal.τ).loc Cert.RetKernelIdeal.main_arg0)
      ∧ m' ((c.tc : Thread Cert.RetRefIdeal.nD Cert.RetRefIdeal.τ).loc Cert.RetRefIdeal.main_arg1) = m ((c.tc : Thread Cert.RetKernelIdeal.nD Cert.RetKernelIdeal.τ).loc Cert.RetKernelIdeal.main_arg1)) →
    ∃ (v0 : (c : Dev Cert.RetKernelIdeal.nD) → Buf (Elt Ideal) ((c.tc : Thread Cert.RetKernelIdeal.nD Cert.RetKernelIdeal.τ).loc Cert.RetKernelIdeal.main_v106)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v106) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v294) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_FfnKernel_FfnKernelIdeal : Prop :=
  True

def algebraic_FfnKernelIdeal_FfnRefIdeal [hFfnKernelIdeal : Cert.FfnKernelIdeal.Facts] [hFfnRefIdeal : Cert.FfnRefIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnKernelIdeal m →
    (∀ c : Dev Cert.FfnKernelIdeal.nD,
      m' ((c.tc : Thread Cert.FfnRefIdeal.nD Cert.FfnRefIdeal.τ).loc Cert.FfnRefIdeal.main_arg0) = m ((c.tc : Thread Cert.FfnKernelIdeal.nD Cert.FfnKernelIdeal.τ).loc Cert.FfnKernelIdeal.main_arg0)
      ∧ m' ((c.tc : Thread Cert.FfnRefIdeal.nD Cert.FfnRefIdeal.τ).loc Cert.FfnRefIdeal.main_arg1) = m ((c.tc : Thread Cert.FfnKernelIdeal.nD Cert.FfnKernelIdeal.τ).loc Cert.FfnKernelIdeal.main_arg1)
      ∧ m' ((c.tc : Thread Cert.FfnRefIdeal.nD Cert.FfnRefIdeal.τ).loc Cert.FfnRefIdeal.main_arg2) = m ((c.tc : Thread Cert.FfnKernelIdeal.nD Cert.FfnKernelIdeal.τ).loc Cert.FfnKernelIdeal.main_arg2)
      ∧ m' ((c.tc : Thread Cert.FfnRefIdeal.nD Cert.FfnRefIdeal.τ).loc Cert.FfnRefIdeal.main_arg3) = m ((c.tc : Thread Cert.FfnKernelIdeal.nD Cert.FfnKernelIdeal.τ).loc Cert.FfnKernelIdeal.main_arg3)
      ∧ m' ((c.tc : Thread Cert.FfnRefIdeal.nD Cert.FfnRefIdeal.τ).loc Cert.FfnRefIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MergeKernel_MergeKernelIdeal : Prop :=
  True

def algebraic_MergeKernelIdeal_MergeRefIdeal [hMergeKernelIdeal : Cert.MergeKernelIdeal.Facts] [hMergeRefIdeal : Cert.MergeRefIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeKernelIdeal m →
    (∀ c : Dev Cert.MergeKernelIdeal.nD,
      m' ((c.tc : Thread Cert.MergeRefIdeal.nD Cert.MergeRefIdeal.τ).loc Cert.MergeRefIdeal.main_arg0) = m ((c.tc : Thread Cert.MergeKernelIdeal.nD Cert.MergeKernelIdeal.τ).loc Cert.MergeKernelIdeal.main_arg0)
      ∧ m' ((c.tc : Thread Cert.MergeRefIdeal.nD Cert.MergeRefIdeal.τ).loc Cert.MergeRefIdeal.main_arg1) = m ((c.tc : Thread Cert.MergeKernelIdeal.nD Cert.MergeKernelIdeal.τ).loc Cert.MergeKernelIdeal.main_arg1)
      ∧ m' ((c.tc : Thread Cert.MergeRefIdeal.nD Cert.MergeRefIdeal.τ).loc Cert.MergeRefIdeal.main_arg2) = m ((c.tc : Thread Cert.MergeKernelIdeal.nD Cert.MergeKernelIdeal.τ).loc Cert.MergeKernelIdeal.main_arg2)
      ∧ m' ((c.tc : Thread Cert.MergeRefIdeal.nD Cert.MergeRefIdeal.τ).loc Cert.MergeRefIdeal.main_arg3) = m ((c.tc : Thread Cert.MergeKernelIdeal.nD Cert.MergeKernelIdeal.τ).loc Cert.MergeKernelIdeal.main_arg3)
      ∧ m' ((c.tc : Thread Cert.MergeRefIdeal.nD Cert.MergeRefIdeal.τ).loc Cert.MergeRefIdeal.main_arg4) = m ((c.tc : Thread Cert.MergeKernelIdeal.nD Cert.MergeKernelIdeal.τ).loc Cert.MergeKernelIdeal.main_arg4)
      ∧ m' ((c.tc : Thread Cert.MergeRefIdeal.nD Cert.MergeRefIdeal.τ).loc Cert.MergeRefIdeal.main_arg5) = m ((c.tc : Thread Cert.MergeKernelIdeal.nD Cert.MergeKernelIdeal.τ).loc Cert.MergeKernelIdeal.main_arg5)
      ∧ m' ((c.tc : Thread Cert.MergeRefIdeal.nD Cert.MergeRefIdeal.τ).loc Cert.MergeRefIdeal.main_arg6) = m ((c.tc : Thread Cert.MergeKernelIdeal.nD Cert.MergeKernelIdeal.τ).loc Cert.MergeKernelIdeal.main_arg6)
      ∧ m' ((c.tc : Thread Cert.MergeRefIdeal.nD Cert.MergeRefIdeal.τ).loc Cert.MergeRefIdeal.main_arg7) = m ((c.tc : Thread Cert.MergeKernelIdeal.nD Cert.MergeKernelIdeal.τ).loc Cert.MergeKernelIdeal.main_arg7)) →
    ∃ (v0 : (c : Dev Cert.MergeKernelIdeal.nD) → Buf (Elt Ideal) ((c.tc : Thread Cert.MergeKernelIdeal.nD Cert.MergeKernelIdeal.τ).loc Cert.MergeKernelIdeal.main_v40)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v40) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InKernel_InKernelIdeal : Prop :=
  True

def algebraic_InKernelIdeal_InRefIdeal [hInKernelIdeal : Cert.InKernelIdeal.Facts] [hInRefIdeal : Cert.InRefIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InRefIdeal.nD Cert.InRefIdeal.τ Cert.InRefIdeal.sig) → Buf (Elt Ideal) ℓ) (g' : Dev Cert.InRefIdeal.nD → PrngReg), Pre_InKernelIdeal m →
    (∀ c : Dev Cert.InKernelIdeal.nD,
      m' ((c.tc : Thread Cert.InRefIdeal.nD Cert.InRefIdeal.τ).loc Cert.InRefIdeal.main_arg0) = m ((c.tc : Thread Cert.InKernelIdeal.nD Cert.InKernelIdeal.τ).loc Cert.InKernelIdeal.main_arg0)
      ∧ m' ((c.tc : Thread Cert.InRefIdeal.nD Cert.InRefIdeal.τ).loc Cert.InRefIdeal.main_arg1) = m ((c.tc : Thread Cert.InKernelIdeal.nD Cert.InKernelIdeal.τ).loc Cert.InKernelIdeal.main_arg1)
      ∧ m' ((c.tc : Thread Cert.InRefIdeal.nD Cert.InRefIdeal.τ).loc Cert.InRefIdeal.main_arg2) = m ((c.tc : Thread Cert.InKernelIdeal.nD Cert.InKernelIdeal.τ).loc Cert.InKernelIdeal.main_arg2)
      ∧ m' ((c.tc : Thread Cert.InRefIdeal.nD Cert.InRefIdeal.τ).loc Cert.InRefIdeal.main_arg3) = m ((c.tc : Thread Cert.InKernelIdeal.nD Cert.InKernelIdeal.τ).loc Cert.InKernelIdeal.main_arg3)
      ∧ m' ((c.tc : Thread Cert.InRefIdeal.nD Cert.InRefIdeal.τ).loc Cert.InRefIdeal.main_arg4) = m ((c.tc : Thread Cert.InKernelIdeal.nD Cert.InKernelIdeal.τ).loc Cert.InKernelIdeal.main_arg4)
      ∧ m' ((c.tc : Thread Cert.InRefIdeal.nD Cert.InRefIdeal.τ).loc Cert.InRefIdeal.main_arg5) = m ((c.tc : Thread Cert.InKernelIdeal.nD Cert.InKernelIdeal.τ).loc Cert.InKernelIdeal.main_arg5)
      ∧ m' ((c.tc : Thread Cert.InRefIdeal.nD Cert.InRefIdeal.τ).loc Cert.InRefIdeal.main_arg6) = m ((c.tc : Thread Cert.InKernelIdeal.nD Cert.InKernelIdeal.τ).loc Cert.InKernelIdeal.main_arg6)) →
    ∃ (v0 : (c : Dev Cert.InKernelIdeal.nD) → Buf (Elt Ideal) ((c.tc : Thread Cert.InKernelIdeal.nD Cert.InKernelIdeal.τ).loc Cert.InKernelIdeal.main_v36_0)) (v1 : (c : Dev Cert.InKernelIdeal.nD) → Buf (Elt Ideal) ((c.tc : Thread Cert.InKernelIdeal.nD Cert.InKernelIdeal.τ).loc Cert.InKernelIdeal.main_v36_1)) (v2 : (c : Dev Cert.InKernelIdeal.nD) → Buf (Elt Ideal) ((c.tc : Thread Cert.InKernelIdeal.nD Cert.InKernelIdeal.τ).loc Cert.InKernelIdeal.main_v36_2)) (v3 : (c : Dev Cert.InKernelIdeal.nD) → Buf (Elt Ideal) ((c.tc : Thread Cert.InKernelIdeal.nD Cert.InKernelIdeal.τ).loc Cert.InKernelIdeal.main_v36_4)) (v4 : (c : Dev Cert.InKernelIdeal.nD) → Buf (Elt Ideal) ((c.tc : Thread Cert.InKernelIdeal.nD Cert.InKernelIdeal.τ).loc Cert.InKernelIdeal.main_v36_5)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v36_0) = v0 c
          ∧ r.2.mem ((c.tc : Thread Cert.InKernelIdeal.nD Cert.InKernelIdeal.τ).loc Cert.InKernelIdeal.main_v36_1) = v1 c
          ∧ r.2.mem ((c.tc : Thread Cert.InKernelIdeal.nD Cert.InKernelIdeal.τ).loc Cert.InKernelIdeal.main_v36_2) = v2 c
          ∧ r.2.mem ((c.tc : Thread Cert.InKernelIdeal.nD Cert.InKernelIdeal.τ).loc Cert.InKernelIdeal.main_v36_4) = v3 c
          ∧ r.2.mem ((c.tc : Thread Cert.InKernelIdeal.nD Cert.InKernelIdeal.τ).loc Cert.InKernelIdeal.main_v36_5) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v38) = v0 c
          ∧ r.2.mem ((c.tc : Thread Cert.InRefIdeal.nD Cert.InRefIdeal.τ).loc Cert.InRefIdeal.main_v16) = v1 c
          ∧ r.2.mem ((c.tc : Thread Cert.InRefIdeal.nD Cert.InRefIdeal.τ).loc Cert.InRefIdeal.main_v17) = v2 c
          ∧ r.2.mem ((c.tc : Thread Cert.InRefIdeal.nD Cert.InRefIdeal.τ).loc Cert.InRefIdeal.main_v42) = v3 c
          ∧ r.2.mem ((c.tc : Thread Cert.InRefIdeal.nD Cert.InRefIdeal.τ).loc Cert.InRefIdeal.main_v45) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_CmpKernel_CmpKernelIdeal : Prop :=
  True

def algebraic_CmpKernelIdeal_CmpRefIdeal [hCmpKernelIdeal : Cert.CmpKernelIdeal.Facts] [hCmpRefIdeal : Cert.CmpRefIdeal.Facts] : Prop :=
  ∀ (m : (ℓ : Loc Cert.CmpKernelIdeal.nD Cert.CmpKernelIdeal.τ Cert.CmpKernelIdeal.sig) → Buf (Elt Ideal) ℓ) (g : Dev Cert.CmpKernelIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpKernelIdeal m →
    (∀ c : Dev Cert.CmpKernelIdeal.nD,
      m' ((c.tc : Thread Cert.CmpRefIdeal.nD Cert.CmpRefIdeal.τ).loc Cert.CmpRefIdeal.main_arg0) = m ((c.tc : Thread Cert.CmpKernelIdeal.nD Cert.CmpKernelIdeal.τ).loc Cert.CmpKernelIdeal.main_arg0)
      ∧ m' ((c.tc : Thread Cert.CmpRefIdeal.nD Cert.CmpRefIdeal.τ).loc Cert.CmpRefIdeal.main_arg1) = m ((c.tc : Thread Cert.CmpKernelIdeal.nD Cert.CmpKernelIdeal.τ).loc Cert.CmpKernelIdeal.main_arg1)
      ∧ m' ((c.tc : Thread Cert.CmpRefIdeal.nD Cert.CmpRefIdeal.τ).loc Cert.CmpRefIdeal.main_arg2) = m ((c.tc : Thread Cert.CmpKernelIdeal.nD Cert.CmpKernelIdeal.τ).loc Cert.CmpKernelIdeal.main_arg2)
      ∧ m' ((c.tc : Thread Cert.CmpRefIdeal.nD Cert.CmpRefIdeal.τ).loc Cert.CmpRefIdeal.main_arg3) = m ((c.tc : Thread Cert.CmpKernelIdeal.nD Cert.CmpKernelIdeal.τ).loc Cert.CmpKernelIdeal.main_arg3)
      ∧ m' ((c.tc : Thread Cert.CmpRefIdeal.nD Cert.CmpRefIdeal.τ).loc Cert.CmpRefIdeal.main_arg4) = m ((c.tc : Thread Cert.CmpKernelIdeal.nD Cert.CmpKernelIdeal.τ).loc Cert.CmpKernelIdeal.main_arg4)
      ∧ m' ((c.tc : Thread Cert.CmpRefIdeal.nD Cert.CmpRefIdeal.τ).loc Cert.CmpRefIdeal.main_arg5) = m ((c.tc : Thread Cert.CmpKernelIdeal.nD Cert.CmpKernelIdeal.τ).loc Cert.CmpKernelIdeal.main_arg5)
      ∧ m' ((c.tc : Thread Cert.CmpRefIdeal.nD Cert.CmpRefIdeal.τ).loc Cert.CmpRefIdeal.main_arg6) = m ((c.tc : Thread Cert.CmpKernelIdeal.nD Cert.CmpKernelIdeal.τ).loc Cert.CmpKernelIdeal.main_arg6)
      ∧ m' ((c.tc : Thread Cert.CmpRefIdeal.nD Cert.CmpRefIdeal.τ).loc Cert.CmpRefIdeal.main_arg7) = m ((c.tc : Thread Cert.CmpKernelIdeal.nD Cert.CmpKernelIdeal.τ).loc Cert.CmpKernelIdeal.main_arg7)) →
    ∃ (v0 : (c : Dev Cert.CmpKernelIdeal.nD) → Buf (Elt Ideal) ((c.tc : Thread Cert.CmpKernelIdeal.nD Cert.CmpKernelIdeal.τ).loc Cert.CmpKernelIdeal.main_v55)) (v1 : (c : Dev Cert.CmpKernelIdeal.nD) → Buf (Elt Ideal) ((c.tc : Thread Cert.CmpKernelIdeal.nD Cert.CmpKernelIdeal.τ).loc Cert.CmpKernelIdeal.main_v56)),
      θ_run (Cert.CmpKernelIdeal.defs (F := Ideal)) (onTc (τ := Cert.CmpKernelIdeal.τ) (Cert.CmpKernelIdeal.main (F := Ideal))) ⟨m, fun _ => 0, g⟩ (fun r => ∀ c : Dev Cert.CmpKernelIdeal.nD,
          r.2.mem ((c.tc : Thread Cert.CmpKernelIdeal.nD Cert.CmpKernelIdeal.τ).loc Cert.CmpKernelIdeal.main_v55) = v0 c
          ∧ r.2.mem ((c.tc : Thread Cert.CmpKernelIdeal.nD Cert.CmpKernelIdeal.τ).loc Cert.CmpKernelIdeal.main_v56) = v1 c
          ∧ r.2.mem ((c.tc : Thread Cert.CmpKernelIdeal.nD Cert.CmpKernelIdeal.τ).loc Cert.CmpKernelIdeal.main_arg0) = m ((c.tc : Thread Cert.CmpKernelIdeal.nD Cert.CmpKernelIdeal.τ).loc Cert.CmpKernelIdeal.main_arg0)
          ∧ r.2.mem ((c.tc : Thread Cert.CmpKernelIdeal.nD Cert.CmpKernelIdeal.τ).loc Cert.CmpKernelIdeal.main_arg1) = m ((c.tc : Thread Cert.CmpKernelIdeal.nD Cert.CmpKernelIdeal.τ).loc Cert.CmpKernelIdeal.main_arg1)
          ∧ r.2.mem ((c.tc : Thread Cert.CmpKernelIdeal.nD Cert.CmpKernelIdeal.τ).loc Cert.CmpKernelIdeal.main_arg2) = m ((c.tc : Thread Cert.CmpKernelIdeal.nD Cert.CmpKernelIdeal.τ).loc Cert.CmpKernelIdeal.main_arg2)
          ∧ r.2.mem ((c.tc : Thread Cert.CmpKernelIdeal.nD Cert.CmpKernelIdeal.τ).loc Cert.CmpKernelIdeal.main_arg3) = m ((c.tc : Thread Cert.CmpKernelIdeal.nD Cert.CmpKernelIdeal.τ).loc Cert.CmpKernelIdeal.main_arg3)
          ∧ r.2.mem ((c.tc : Thread Cert.CmpKernelIdeal.nD Cert.CmpKernelIdeal.τ).loc Cert.CmpKernelIdeal.main_arg4) = m ((c.tc : Thread Cert.CmpKernelIdeal.nD Cert.CmpKernelIdeal.τ).loc Cert.CmpKernelIdeal.main_arg4)
          ∧ r.2.mem ((c.tc : Thread Cert.CmpKernelIdeal.nD Cert.CmpKernelIdeal.τ).loc Cert.CmpKernelIdeal.main_arg5) = m ((c.tc : Thread Cert.CmpKernelIdeal.nD Cert.CmpKernelIdeal.τ).loc Cert.CmpKernelIdeal.main_arg5)
          ∧ r.2.mem ((c.tc : Thread Cert.CmpKernelIdeal.nD Cert.CmpKernelIdeal.τ).loc Cert.CmpKernelIdeal.main_arg6) = m ((c.tc : Thread Cert.CmpKernelIdeal.nD Cert.CmpKernelIdeal.τ).loc Cert.CmpKernelIdeal.main_arg6)
          ∧ r.2.mem ((c.tc : Thread Cert.CmpKernelIdeal.nD Cert.CmpKernelIdeal.τ).loc Cert.CmpKernelIdeal.main_arg7) = m ((c.tc : Thread Cert.CmpKernelIdeal.nD Cert.CmpKernelIdeal.τ).loc Cert.CmpKernelIdeal.main_arg7))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v47) = v0 c
          ∧ r.2.mem ((c.tc : Thread Cert.CmpRefIdeal.nD Cert.CmpRefIdeal.τ).loc Cert.CmpRefIdeal.main_v49) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6)
          ∧ r.2.mem ((c.tc : Thread Cert.CmpRefIdeal.nD Cert.CmpRefIdeal.τ).loc Cert.CmpRefIdeal.main_arg7) = m' ((c.tc : Thread Cert.CmpRefIdeal.nD Cert.CmpRefIdeal.τ).loc Cert.CmpRefIdeal.main_arg7))

def Claim : Prop :=
  ∃ (hRetKernel : Cert.RetKernel.Facts) (hRetKernelIdeal : Cert.RetKernelIdeal.Facts) (hRetRefIdeal : Cert.RetRefIdeal.Facts) (hFfnKernel : Cert.FfnKernel.Facts) (hFfnKernelIdeal : Cert.FfnKernelIdeal.Facts) (hFfnRefIdeal : Cert.FfnRefIdeal.Facts) (hMergeKernel : Cert.MergeKernel.Facts) (hMergeKernelIdeal : Cert.MergeKernelIdeal.Facts) (hMergeRefIdeal : Cert.MergeRefIdeal.Facts) (hInKernel : Cert.InKernel.Facts) (hInKernelIdeal : Cert.InKernelIdeal.Facts) (hInRefIdeal : Cert.InRefIdeal.Facts) (hCmpKernel : Cert.CmpKernel.Facts) (hCmpKernelIdeal : Cert.CmpKernelIdeal.Facts) (hCmpRefIdeal : Cert.CmpRefIdeal.Facts),
    quiescent_RetKernel (hRetKernel := hRetKernel)
    ∧ quiescent_RetKernelIdeal (hRetKernelIdeal := hRetKernelIdeal)
    ∧ quiescent_RetRefIdeal (hRetRefIdeal := hRetRefIdeal)
    ∧ quiescent_FfnKernel (hFfnKernel := hFfnKernel)
    ∧ quiescent_FfnKernelIdeal (hFfnKernelIdeal := hFfnKernelIdeal)
    ∧ quiescent_FfnRefIdeal (hFfnRefIdeal := hFfnRefIdeal)
    ∧ quiescent_MergeKernel (hMergeKernel := hMergeKernel)
    ∧ quiescent_MergeKernelIdeal (hMergeKernelIdeal := hMergeKernelIdeal)
    ∧ quiescent_MergeRefIdeal (hMergeRefIdeal := hMergeRefIdeal)
    ∧ quiescent_InKernel (hInKernel := hInKernel)
    ∧ quiescent_InKernelIdeal (hInKernelIdeal := hInKernelIdeal)
    ∧ quiescent_InRefIdeal (hInRefIdeal := hInRefIdeal)
    ∧ quiescent_CmpKernel (hCmpKernel := hCmpKernel)
    ∧ quiescent_CmpKernelIdeal (hCmpKernelIdeal := hCmpKernelIdeal)
    ∧ quiescent_CmpRefIdeal (hCmpRefIdeal := hCmpRefIdeal)
    ∧ preserves_RetKernel_RetKernelIdeal
    ∧ algebraic_RetKernelIdeal_RetRefIdeal (hRetKernelIdeal := hRetKernelIdeal) (hRetRefIdeal := hRetRefIdeal)
    ∧ preserves_FfnKernel_FfnKernelIdeal
    ∧ algebraic_FfnKernelIdeal_FfnRefIdeal (hFfnKernelIdeal := hFfnKernelIdeal) (hFfnRefIdeal := hFfnRefIdeal)
    ∧ preserves_MergeKernel_MergeKernelIdeal
    ∧ algebraic_MergeKernelIdeal_MergeRefIdeal (hMergeKernelIdeal := hMergeKernelIdeal) (hMergeRefIdeal := hMergeRefIdeal)
    ∧ preserves_InKernel_InKernelIdeal
    ∧ algebraic_InKernelIdeal_InRefIdeal (hInKernelIdeal := hInKernelIdeal) (hInRefIdeal := hInRefIdeal)
    ∧ preserves_CmpKernel_CmpKernelIdeal
    ∧ algebraic_CmpKernelIdeal_CmpRefIdeal (hCmpKernelIdeal := hCmpKernelIdeal) (hCmpRefIdeal := hCmpRefIdeal)
-- ==== RetKernel.lean ====
abbrev S8x4096x6936 : Shape := ⟨3, ![8, 4096, 6936]⟩
abbrev S512 : Shape := ⟨1, ![512]⟩
abbrev S8x4096x512 : Shape := ⟨3, ![8, 4096, 512]⟩
abbrev S8x4096x256 : Shape := ⟨3, ![8, 4096, 256]⟩
abbrev S8x4096x4x2x32 : Shape := ⟨5, ![8, 4096, 4, 2, 32]⟩
abbrev S8x4096x2x4x32 : Shape := ⟨5, ![8, 4096, 2, 4, 32]⟩
abbrev S_ : Shape := ⟨0, ![]⟩
abbrev S8x4096x128 : Shape := ⟨3, ![8, 4096, 128]⟩
abbrev S8x4096x2048 : Shape := ⟨3, ![8, 4096, 2048]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S256 : Shape := ⟨1, ![256]⟩
abbrev S1x256 : Shape := ⟨2, ![1, 256]⟩
abbrev S4x256 : Shape := ⟨2, ![4, 256]⟩
abbrev S4x1x256 : Shape := ⟨3, ![4, 1, 256]⟩
abbrev S4x128x1 : Shape := ⟨3, ![4, 128, 1]⟩
abbrev S4x128x256 : Shape := ⟨3, ![4, 128, 256]⟩
abbrev S1x512 : Shape := ⟨2, ![1, 512]⟩
abbrev S4x128x512 : Shape := ⟨3, ![4, 128, 512]⟩
abbrev S4x4x256x128 : Shape := ⟨4, ![4, 4, 256, 128]⟩
abbrev S1x128x256 : Shape := ⟨3, ![1, 128, 256]⟩
abbrev S128x256 : Shape := ⟨2, ![128, 256]⟩
abbrev S1x1x256 : Shape := ⟨3, ![1, 1, 256]⟩
abbrev S1x1x256x128 : Shape := ⟨4, ![1, 1, 256, 128]⟩
abbrev S256x128 : Shape := ⟨2, ![256, 128]⟩
abbrev S1 : Shape := ⟨1, ![1]⟩

abbrev nBuf : Space → Nat
  | .hbm => 161
  | .vmem => 20
  | .smem => 1
  | _ => 0

abbrev hbmTy0_0 (i : Nat) : BufTy := match i % 128 with
  | 0 => ⟨S8x4096x6936, .f32⟩
  | 1 => ⟨S512, .f32⟩
  | 2 => ⟨S8x4096x512, .f32⟩
  | 3 => ⟨S8x4096x512, .f32⟩
  | 4 => ⟨S8x4096x256, .f32⟩
  | 5 => ⟨S8x4096x4x2x32, .f32⟩
  | 6 => ⟨S8x4096x2x4x32, .f32⟩
  | 7 => ⟨S8x4096x256, .f32⟩
  | 8 => ⟨S8x4096x256, .f32⟩
  | 9 => ⟨S8x4096x4x2x32, .f32⟩
  | 10 => ⟨S8x4096x2x4x32, .f32⟩
  | 11 => ⟨S8x4096x256, .f32⟩
  | 12 => ⟨S_, .f32⟩
  | 13 => ⟨S8x4096x256, .f32⟩
  | 14 => ⟨S8x4096x256, .f32⟩
  | 15 => ⟨S8x4096x128, .f32⟩
  | 16 => ⟨S8x4096x128, .f32⟩
  | 17 => ⟨S8x4096x128, .f32⟩
  | 18 => ⟨S8x4096x128, .f32⟩
  | 19 => ⟨S8x4096x2048, .f32⟩
  | 20 => ⟨S4096, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096x1, .f32⟩
  | 30 => ⟨S1x32, .f32⟩
  | 31 => ⟨S4096x32, .f32⟩
  | 32 => ⟨S4096x32, .f32⟩
  | 33 => ⟨S4096x32, .f32⟩
  | 34 => ⟨S4096x32, .f32⟩
  | 35 => ⟨S1x4096x1x32, .f32⟩
  | 36 => ⟨S1x4096x4x32, .f32⟩
  | 37 => ⟨S4096x128, .f32⟩
  | 38 => ⟨S4096x32, .f32⟩
  | 39 => ⟨S1x4096x1x32, .f32⟩
  | 40 => ⟨S1x4096x4x32, .f32⟩
  | 41 => ⟨S4096x128, .f32⟩
  | 42 => ⟨S4, .f32⟩
  | 43 => ⟨S_, .f32⟩
  | 44 => ⟨S4, .f32⟩
  | 45 => ⟨S4, .f32⟩
  | 46 => ⟨S_, .f32⟩
  | 47 => ⟨S4, .f32⟩
  | 48 => ⟨S4, .f32⟩
  | 49 => ⟨S4, .f32⟩
  | 50 => ⟨S4, .f32⟩
  | 51 => ⟨S4, .f32⟩
  | 52 => ⟨S128, .i32⟩
  | 53 => ⟨S128x1, .i32⟩
  | 54 => ⟨S1x128, .i32⟩
  | 55 => ⟨S128x128, .i32⟩
  | 56 => ⟨S128x128, .i32⟩
  | 57 => ⟨S128x128, .i32⟩
  | 58 => ⟨S_, .i32⟩
  | 59 => ⟨S128x128, .i32⟩
  | 60 => ⟨S128x128, .i1⟩
  | 61 => ⟨S4x1x1, .f32⟩
  | 62 => ⟨S_, .i32⟩
  | 63 => ⟨S128x128, .i32⟩
  | 64 => ⟨S128x128, .i32⟩
  | 65 => ⟨S128x128, .f32⟩
  | 66 => ⟨S1x128x128, .f32⟩
  | 67 => ⟨S4x128x128, .f32⟩
  | 68 => ⟨S4x128x128, .f32⟩
  | 69 => ⟨S4x128x128, .f32⟩
  | 70 => ⟨S4x128x128, .f32⟩
  | 71 => ⟨S_, .f32⟩
  | 72 => ⟨S_, .f32⟩
  | 73 => ⟨S4x128x128, .i1⟩
  | 74 => ⟨S4x128x128, .f32⟩
  | 75 => ⟨S4x128x128, .f32⟩
  | 76 => ⟨S4x1, .f32⟩
  | 77 => ⟨S_, .i32⟩
  | 78 => ⟨S128, .i32⟩
  | 79 => ⟨S128, .i32⟩
  | 80 => ⟨S128, .f32⟩
  | 81 => ⟨S1x128, .f32⟩
  | 82 => ⟨S4x128, .f32⟩
  | 83 => ⟨S4x128, .f32⟩
  | 84 => ⟨S4x128, .f32⟩
  | 85 => ⟨S4x128, .f32⟩
  | 86 => ⟨S4x1, .f32⟩
  | 87 => ⟨S_, .i32⟩
  | 88 => ⟨S128, .i32⟩
  | 89 => ⟨S128, .i32⟩
  | 90 => ⟨S128, .f32⟩
  | 91 => ⟨S1x128, .f32⟩
  | 92 => ⟨S4x128, .f32⟩
  | 93 => ⟨S4x128, .f32⟩
  | 94 => ⟨S4x128, .f32⟩
  | 95 => ⟨S4x128, .f32⟩
  | 96 => ⟨S_, .f32⟩
  | 97 => ⟨S4, .f32⟩
  | 98 => ⟨S4, .f32⟩
  | 99 => ⟨S4, .f32⟩
  | 100 => ⟨S256, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S256, .i32⟩
  | 108 => ⟨S256, .i32⟩
  | 109 => ⟨S_, .i32⟩
  | 110 => ⟨S256, .i32⟩
  | 111 => ⟨S256, .i1⟩
  | 112 => ⟨S_, .i32⟩
  | 113 => ⟨S256, .i32⟩
  | 114 => ⟨S256, .i1⟩
  | 115 => ⟨S_, .i32⟩
  | 116 => ⟨S_, .i1⟩
  | 117 => ⟨S256, .i1⟩
  | 118 => ⟨S256, .i1⟩
  | 119 => ⟨S256, .i1⟩
  | 120 => ⟨S256, .i32⟩
  | 121 => ⟨S256, .i32⟩
  | 122 => ⟨S256, .i32⟩
  | 123 => ⟨S_, .i32⟩
  | 124 => ⟨S_, .i32⟩
  | 125 => ⟨S256, .i32⟩
  | 126 => ⟨S256, .i32⟩
  | 127 => ⟨S256, .i32⟩
  | _ => ⟨S8x4096x6936, .f32⟩

abbrev hbmTy0_1 (i : Nat) : BufTy := match i % 128 with
  | 0 => ⟨S_, .i32⟩
  | 1 => ⟨S256, .i32⟩
  | 2 => ⟨S256, .i1⟩
  | 3 => ⟨S256, .i32⟩
  | 4 => ⟨S256, .i32⟩
  | 5 => ⟨S_, .i32⟩
  | 6 => ⟨S256, .i32⟩
  | 7 => ⟨S256, .i1⟩
  | 8 => ⟨S256, .i1⟩
  | 9 => ⟨S_, .i32⟩
  | 10 => ⟨S256, .i32⟩
  | 11 => ⟨S256, .i32⟩
  | 12 => ⟨S256, .i32⟩
  | 13 => ⟨S1x256, .i32⟩
  | 14 => ⟨S4, .i32⟩
  | 15 => ⟨S4x1, .i32⟩
  | 16 => ⟨S4x256, .i32⟩
  | 17 => ⟨S4x256, .i32⟩
  | 18 => ⟨S4x256, .i1⟩
  | 19 => ⟨S4x256, .f32⟩
  | 20 => ⟨S4x1x256, .f32⟩
  | 21 => ⟨S4x128x1, .f32⟩
  | 22 => ⟨S4x1x256, .f32⟩
  | 23 => ⟨S4x128x256, .f32⟩
  | 24 => ⟨S4x128x256, .f32⟩
  | 25 => ⟨S4x128x256, .f32⟩
  | 26 => ⟨S4x128x1, .f32⟩
  | 27 => ⟨S4x1x256, .f32⟩
  | 28 => ⟨S4x128x256, .f32⟩
  | 29 => ⟨S4x128x256, .f32⟩
  | 30 => ⟨S4x128x256, .f32⟩
  | 31 => ⟨S1x512, .f32⟩
  | 32 => ⟨S8x4096x512, .bf16⟩
  | _ => ⟨S8x4096x6936, .f32⟩

abbrev hbmTy (i : Nat) : BufTy := match i / 128 with
  | 0 => hbmTy0_0 i
  | 1 => hbmTy0_1 i
  | _ => ⟨S8x4096x6936, .f32⟩

abbrev bufTy : (tb : Table) → Fin (tcTables nBuf tb) → BufTy
  | .hbm, ⟨i, _⟩ => hbmTy i
  | .local _ .vmem, ⟨0, _⟩ => ⟨S4x128x256, .f32⟩
  | .local _ .vmem, ⟨1, _⟩ => ⟨S4x128x256, .f32⟩
  | .local _ .vmem, ⟨2, _⟩ => ⟨S4x128x256, .f32⟩
  | .local _ .vmem, ⟨3, _⟩ => ⟨S4x128x256, .f32⟩
  | .local _ .vmem, ⟨4, _⟩ => ⟨S4x128x512, .f32⟩
  | .local _ .vmem, ⟨5, _⟩ => ⟨S4x128x512, .f32⟩
  | .local _ .vmem, ⟨6, _⟩ => ⟨S4x128x512, .f32⟩
  | .local _ .vmem, ⟨7, _⟩ => ⟨S4x128x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x128x128, .f32⟩
  | .local _ .vmem, ⟨13, _⟩ => ⟨S4x1x256, .f32⟩
  | .local _ .vmem, ⟨14, _⟩ => ⟨S4x128x256, .f32⟩
  | .local _ .vmem, ⟨15, _⟩ => ⟨S4x128x256, .f32⟩
  | .local _ .vmem, ⟨16, _⟩ => ⟨S1x512, .f32⟩
  | .local _ .vmem, ⟨17, _⟩ => ⟨S4x128x512, .bf16⟩
  | .local _ .vmem, ⟨18, _⟩ => ⟨S4x128x512, .bf16⟩
  | .local _ .vmem, ⟨19, _⟩ => ⟨S4x4x256x128, .f32⟩
  | .local _ .smem, ⟨0, _⟩ => ⟨S4, .f32⟩
  | _, _ => ⟨S8x4096x6936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_c : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_c_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v62 : Ref sig .tc := ⟨.hbm, 75, rfl⟩
abbrev main_v63 : Ref sig .tc := ⟨.hbm, 76, rfl⟩
abbrev main_c_6 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_c_7 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_c_9 : Ref sig .tc := ⟨.hbm, 101, rfl⟩
abbrev main_call1_v0 : Ref sig .tc := ⟨.hbm, 102, rfl⟩
abbrev main_call1_c : Ref sig .tc := ⟨.hbm, 103, rfl⟩
abbrev main_call1_v1 : Ref sig .tc := ⟨.hbm, 104, rfl⟩
abbrev main_call1_c_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_c_1 : Ref sig .tc := ⟨.hbm, 109, rfl⟩
abbrev main_call1_v5 : Ref sig .tc := ⟨.hbm, 110, rfl⟩
abbrev main_call1_v6 : Ref sig .tc := ⟨.hbm, 111, rfl⟩
abbrev main_call1_c_2 : Ref sig .tc := ⟨.hbm, 112, rfl⟩
abbrev main_call1_v7 : Ref sig .tc := ⟨.hbm, 113, rfl⟩
abbrev main_call1_v8 : Ref sig .tc := ⟨.hbm, 114, rfl⟩
abbrev main_call1_c_3 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_v12 : Ref sig .tc := ⟨.hbm, 119, rfl⟩
abbrev main_call1_v13 : Ref sig .tc := ⟨.hbm, 120, rfl⟩
abbrev main_call1_v14 : Ref sig .tc := ⟨.hbm, 121, rfl⟩
abbrev main_v85 : Ref sig .tc := ⟨.hbm, 122, rfl⟩
abbrev main_c_10 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_v8 : Ref sig .tc := ⟨.hbm, 132, rfl⟩
abbrev main_call2_c : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_c_0 : Ref sig .tc := ⟨.hbm, 137, rfl⟩
abbrev main_call2_v12 : Ref sig .tc := ⟨.hbm, 138, rfl⟩
abbrev main_call2_v13 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RetRefIdeal.lean ====
abbrev S8x4096x6936 : Shape := ⟨3, ![8, 4096, 6936]⟩
abbrev S512 : Shape := ⟨1, ![512]⟩
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x256 : Shape := ⟨3, ![8, 4096, 256]⟩
abbrev S8x4096x3072 : Shape := ⟨3, ![8, 4096, 3072]⟩
abbrev S4096 : Shape := ⟨1, ![4096]⟩
abbrev S8x4096x4x64 : Shape := ⟨4, ![8, 4096, 4, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S8x4096x4x32 : Shape := ⟨4, ![8, 4096, 4, 32]⟩
abbrev S1x4096x1x32 : Shape := ⟨4, ![1, 4096, 1, 32]⟩
abbrev S8x32x128x4x64 : Shape := ⟨5, ![8, 32, 128, 4, 64]⟩
abbrev S8x32x128x4x128 : Shape := ⟨5, ![8, 32, 128, 4, 128]⟩
abbrev S4 : Shape := ⟨1, ![4]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S128x4 : Shape := ⟨2, ![128, 4]⟩
abbrev S1x1x128x4x1 : Shape := ⟨5, ![1, 1, 128, 4, 1]⟩
abbrev S8x32x4x64x128 : Shape := ⟨5, ![8, 32, 4, 64, 128]⟩
abbrev S1x4x1x1 : Shape := ⟨4, ![1, 4, 1, 1]⟩
abbrev S8x4x64x128 : Shape := ⟨4, ![8, 4, 64, 128]⟩
abbrev S32x8x4x64x128 : Shape := ⟨5, ![32, 8, 4, 64, 128]⟩
abbrev S1x8x4x64x128 : Shape := ⟨5, ![1, 8, 4, 64, 128]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S8x32x4x128x128 : Shape := ⟨5, ![8, 32, 4, 128, 128]⟩
abbrev S1x1x4x128x128 : Shape := ⟨5, ![1, 1, 4, 128, 128]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x512 : Shape := ⟨3, ![1, 1, 512]⟩

abbrev nBuf : Space → Nat
  | .hbm => 359
  | .vmem => 0
  | .smem => 0
  | _ => 0

abbrev hbmTy0_0 (i : Nat) : BufTy := match i % 128 with
  | 0 => ⟨S8x4096x6936, .f32⟩
  | 1 => ⟨S512, .f32⟩
  | 2 => ⟨S8x4096x512, .f32⟩
  | 3 => ⟨S8x4096x128, .f32⟩
  | 4 => ⟨S8x4096x128, .f32⟩
  | 5 => ⟨S8x4096x128, .f32⟩
  | 6 => ⟨S8x4096x128, .f32⟩
  | 7 => ⟨S8x4096x128, .f32⟩
  | 8 => ⟨S8x4096x128, .f32⟩
  | 9 => ⟨S8x4096x24, .f32⟩
  | 10 => ⟨S8x4096x256, .f32⟩
  | 11 => ⟨S8x4096x256, .f32⟩
  | 12 => ⟨S8x4096x512, .f32⟩
  | 13 => ⟨S8x4096x512, .f32⟩
  | 14 => ⟨S8x4096x512, .f32⟩
  | 15 => ⟨S8x4096x512, .f32⟩
  | 16 => ⟨S8x4096x3072, .f32⟩
  | 17 => ⟨S4096, .f32⟩
  | 18 => ⟨S8x4096x4x64, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S4096x1, .f32⟩
  | 28 => ⟨S1x32, .f32⟩
  | 29 => ⟨S4096x32, .f32⟩
  | 30 => ⟨S4096x32, .f32⟩
  | 31 => ⟨S4096x32, .f32⟩
  | 32 => ⟨S4096x32, .f32⟩
  | 33 => ⟨S4096x1x32, .f32⟩
  | 34 => ⟨S4096x32, .f32⟩
  | 35 => ⟨S4096x1x32, .f32⟩
  | 36 => ⟨S8x4096x4x32, .f32⟩
  | 37 => ⟨S8x4096x4x32, .f32⟩
  | 38 => ⟨S1x4096x1x32, .f32⟩
  | 39 => ⟨S8x4096x4x32, .f32⟩
  | 40 => ⟨S8x4096x4x32, .f32⟩
  | 41 => ⟨S1x4096x1x32, .f32⟩
  | 42 => ⟨S8x4096x4x32, .f32⟩
  | 43 => ⟨S8x4096x4x32, .f32⟩
  | 44 => ⟨S8x4096x4x32, .f32⟩
  | 45 => ⟨S1x4096x1x32, .f32⟩
  | 46 => ⟨S8x4096x4x32, .f32⟩
  | 47 => ⟨S8x4096x4x32, .f32⟩
  | 48 => ⟨S1x4096x1x32, .f32⟩
  | 49 => ⟨S8x4096x4x32, .f32⟩
  | 50 => ⟨S8x4096x4x32, .f32⟩
  | 51 => ⟨S8x4096x4x32, .f32⟩
  | 52 => ⟨S8x4096x4x64, .f32⟩
  | 53 => ⟨S8x4096x4x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S4096x1, .f32⟩
  | 63 => ⟨S1x32, .f32⟩
  | 64 => ⟨S4096x32, .f32⟩
  | 65 => ⟨S4096x32, .f32⟩
  | 66 => ⟨S4096x32, .f32⟩
  | 67 => ⟨S4096x32, .f32⟩
  | 68 => ⟨S4096x1x32, .f32⟩
  | 69 => ⟨S4096x32, .f32⟩
  | 70 => ⟨S4096x1x32, .f32⟩
  | 71 => ⟨S8x4096x4x32, .f32⟩
  | 72 => ⟨S8x4096x4x32, .f32⟩
  | 73 => ⟨S1x4096x1x32, .f32⟩
  | 74 => ⟨S8x4096x4x32, .f32⟩
  | 75 => ⟨S8x4096x4x32, .f32⟩
  | 76 => ⟨S1x4096x1x32, .f32⟩
  | 77 => ⟨S8x4096x4x32, .f32⟩
  | 78 => ⟨S8x4096x4x32, .f32⟩
  | 79 => ⟨S8x4096x4x32, .f32⟩
  | 80 => ⟨S1x4096x1x32, .f32⟩
  | 81 => ⟨S8x4096x4x32, .f32⟩
  | 82 => ⟨S8x4096x4x32, .f32⟩
  | 83 => ⟨S1x4096x1x32, .f32⟩
  | 84 => ⟨S8x4096x4x32, .f32⟩
  | 85 => ⟨S8x4096x4x32, .f32⟩
  | 86 => ⟨S8x4096x4x32, .f32⟩
  | 87 => ⟨S8x4096x4x64, .f32⟩
  | 88 => ⟨S_, .f32⟩
  | 89 => ⟨S8x4096x4x64, .f32⟩
  | 90 => ⟨S8x4096x4x64, .f32⟩
  | 91 => ⟨S8x32x128x4x64, .f32⟩
  | 92 => ⟨S8x32x128x4x64, .f32⟩
  | 93 => ⟨S8x32x128x4x128, .f32⟩
  | 94 => ⟨S4, .f32⟩
  | 95 => ⟨S_, .f32⟩
  | 96 => ⟨S4, .f32⟩
  | 97 => ⟨S4, .f32⟩
  | 98 => ⟨S_, .f32⟩
  | 99 => ⟨S4, .f32⟩
  | 100 => ⟨S4, .f32⟩
  | 101 => ⟨S4, .f32⟩
  | 102 => ⟨S4, .f32⟩
  | 103 => ⟨S4, .f32⟩
  | 104 => ⟨S128, .i32⟩
  | 105 => ⟨S4x1, .f32⟩
  | 106 => ⟨S_, .i32⟩
  | 107 => ⟨S128, .i32⟩
  | 108 => ⟨S128, .i32⟩
  | 109 => ⟨S128, .f32⟩
  | 110 => ⟨S1x128, .f32⟩
  | 111 => ⟨S4x128, .f32⟩
  | 112 => ⟨S4x128, .f32⟩
  | 113 => ⟨S4x128, .f32⟩
  | 114 => ⟨S4x128, .f32⟩
  | 115 => ⟨S128x4, .f32⟩
  | 116 => ⟨S1x1x128x4x1, .f32⟩
  | 117 => ⟨S8x32x128x4x64, .f32⟩
  | 118 => ⟨S8x32x128x4x64, .f32⟩
  | 119 => ⟨S8x32x4x64x128, .f32⟩
  | 120 => ⟨S_, .f32⟩
  | 121 => ⟨S4, .f32⟩
  | 122 => ⟨S4, .f32⟩
  | 123 => ⟨S4, .f32⟩
  | 124 => ⟨S1x4x1x1, .f32⟩
  | 125 => ⟨S_, .f32⟩
  | 126 => ⟨S8x4x64x128, .f32⟩
  | 127 => ⟨S32x8x4x64x128, .f32⟩
  | _ => ⟨S8x4096x6936, .f32⟩

abbrev hbmTy0_1 (i : Nat) : BufTy := match i % 128 with
  | 0 => ⟨S_, .f32⟩
  | 1 => ⟨S32x8x4x64x128, .f32⟩
  | 2 => ⟨S_, .i32⟩
  | 3 => ⟨S32x8x4x64x128, .f32⟩
  | 4 => ⟨S1x4x1x1, .f32⟩
  | 5 => ⟨S_, .i32⟩
  | 6 => ⟨S8x4x64x128, .f32⟩
  | 7 => ⟨S32x8x4x64x128, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S1x8x4x64x128, .f32⟩
  | 15 => ⟨S8x4x64x128, .f32⟩
  | 16 => ⟨S8x4x64x128, .f32⟩
  | 17 => ⟨S8x4x64x128, .f32⟩
  | 18 => ⟨S8x4x64x128, .f32⟩
  | 19 => ⟨S1x8x4x64x128, .f32⟩
  | 20 => ⟨S_, .i32⟩
  | 21 => ⟨S_, .i32⟩
  | 22 => ⟨S_, .i32⟩
  | 23 => ⟨S_, .i32⟩
  | 24 => ⟨S32x8x4x64x128, .f32⟩
  | 25 => ⟨S_, .i32⟩
  | 26 => ⟨S_, .i32⟩
  | 27 => ⟨S8x32x4x64x128, .f32⟩
  | 28 => ⟨S8x4096x512, .f32⟩
  | 29 => ⟨S8x4096x128, .f32⟩
  | 30 => ⟨S8x4096x128, .f32⟩
  | 31 => ⟨S8x4096x128, .f32⟩
  | 32 => ⟨S8x4096x128, .f32⟩
  | 33 => ⟨S8x4096x128, .f32⟩
  | 34 => ⟨S8x4096x128, .f32⟩
  | 35 => ⟨S8x4096x24, .f32⟩
  | 36 => ⟨S8x4096x256, .f32⟩
  | 37 => ⟨S8x4096x256, .f32⟩
  | 38 => ⟨S8x4096x512, .f32⟩
  | 39 => ⟨S8x4096x512, .f32⟩
  | 40 => ⟨S8x4096x512, .f32⟩
  | 41 => ⟨S8x4096x512, .f32⟩
  | 42 => ⟨S8x4096x3072, .f32⟩
  | 43 => ⟨S4096, .f32⟩
  | 44 => ⟨S8x4096x4x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S4096x1, .f32⟩
  | 54 => ⟨S1x32, .f32⟩
  | 55 => ⟨S4096x32, .f32⟩
  | 56 => ⟨S4096x32, .f32⟩
  | 57 => ⟨S4096x32, .f32⟩
  | 58 => ⟨S4096x32, .f32⟩
  | 59 => ⟨S4096x1x32, .f32⟩
  | 60 => ⟨S4096x32, .f32⟩
  | 61 => ⟨S4096x1x32, .f32⟩
  | 62 => ⟨S8x4096x4x32, .f32⟩
  | 63 => ⟨S8x4096x4x32, .f32⟩
  | 64 => ⟨S1x4096x1x32, .f32⟩
  | 65 => ⟨S8x4096x4x32, .f32⟩
  | 66 => ⟨S8x4096x4x32, .f32⟩
  | 67 => ⟨S1x4096x1x32, .f32⟩
  | 68 => ⟨S8x4096x4x32, .f32⟩
  | 69 => ⟨S8x4096x4x32, .f32⟩
  | 70 => ⟨S8x4096x4x32, .f32⟩
  | 71 => ⟨S1x4096x1x32, .f32⟩
  | 72 => ⟨S8x4096x4x32, .f32⟩
  | 73 => ⟨S8x4096x4x32, .f32⟩
  | 74 => ⟨S1x4096x1x32, .f32⟩
  | 75 => ⟨S8x4096x4x32, .f32⟩
  | 76 => ⟨S8x4096x4x32, .f32⟩
  | 77 => ⟨S8x4096x4x32, .f32⟩
  | 78 => ⟨S8x4096x4x64, .f32⟩
  | 79 => ⟨S8x4096x4x64, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S4096x1, .f32⟩
  | 89 => ⟨S1x32, .f32⟩
  | 90 => ⟨S4096x32, .f32⟩
  | 91 => ⟨S4096x32, .f32⟩
  | 92 => ⟨S4096x32, .f32⟩
  | 93 => ⟨S4096x32, .f32⟩
  | 94 => ⟨S4096x1x32, .f32⟩
  | 95 => ⟨S4096x32, .f32⟩
  | 96 => ⟨S4096x1x32, .f32⟩
  | 97 => ⟨S8x4096x4x32, .f32⟩
  | 98 => ⟨S8x4096x4x32, .f32⟩
  | 99 => ⟨S1x4096x1x32, .f32⟩
  | 100 => ⟨S8x4096x4x32, .f32⟩
  | 101 => ⟨S8x4096x4x32, .f32⟩
  | 102 => ⟨S1x4096x1x32, .f32⟩
  | 103 => ⟨S8x4096x4x32, .f32⟩
  | 104 => ⟨S8x4096x4x32, .f32⟩
  | 105 => ⟨S8x4096x4x32, .f32⟩
  | 106 => ⟨S1x4096x1x32, .f32⟩
  | 107 => ⟨S8x4096x4x32, .f32⟩
  | 108 => ⟨S8x4096x4x32, .f32⟩
  | 109 => ⟨S1x4096x1x32, .f32⟩
  | 110 => ⟨S8x4096x4x32, .f32⟩
  | 111 => ⟨S8x4096x4x32, .f32⟩
  | 112 => ⟨S8x4096x4x32, .f32⟩
  | 113 => ⟨S8x4096x4x64, .f32⟩
  | 114 => ⟨S_, .f32⟩
  | 115 => ⟨S8x4096x4x64, .f32⟩
  | 116 => ⟨S8x4096x4x64, .f32⟩
  | 117 => ⟨S8x32x128x4x64, .f32⟩
  | 118 => ⟨S8x32x128x4x64, .f32⟩
  | 119 => ⟨S8x32x128x4x128, .f32⟩
  | 120 => ⟨S4, .f32⟩
  | 121 => ⟨S_, .f32⟩
  | 122 => ⟨S4, .f32⟩
  | 123 => ⟨S4, .f32⟩
  | 124 => ⟨S_, .f32⟩
  | 125 => ⟨S4, .f32⟩
  | 126 => ⟨S4, .f32⟩
  | 127 => ⟨S4, .f32⟩
  | _ => ⟨S8x4096x6936, .f32⟩

abbrev hbmTy0_2 (i : Nat) : BufTy := match i % 128 with
  | 0 => ⟨S4, .f32⟩
  | 1 => ⟨S4, .f32⟩
  | 2 => ⟨S128, .i32⟩
  | 3 => ⟨S128x1, .i32⟩
  | 4 => ⟨S1x128, .i32⟩
  | 5 => ⟨S128x128, .i32⟩
  | 6 => ⟨S128x128, .i32⟩
  | 7 => ⟨S128x128, .i32⟩
  | 8 => ⟨S_, .i32⟩
  | 9 => ⟨S128x128, .i32⟩
  | 10 => ⟨S128x128, .i1⟩
  | 11 => ⟨S4x1x1, .f32⟩
  | 12 => ⟨S_, .i32⟩
  | 13 => ⟨S128x128, .i32⟩
  | 14 => ⟨S128x128, .i32⟩
  | 15 => ⟨S128x128, .f32⟩
  | 16 => ⟨S1x128x128, .f32⟩
  | 17 => ⟨S4x128x128, .f32⟩
  | 18 => ⟨S4x128x128, .f32⟩
  | 19 => ⟨S4x128x128, .f32⟩
  | 20 => ⟨S4x128x128, .f32⟩
  | 21 => ⟨S_, .f32⟩
  | 22 => ⟨S_, .f32⟩
  | 23 => ⟨S4x128x128, .i1⟩
  | 24 => ⟨S4x128x128, .f32⟩
  | 25 => ⟨S4x128x128, .f32⟩
  | 26 => ⟨S8x32x4x128x128, .f32⟩
  | 27 => ⟨S1x1x4x128x128, .f32⟩
  | 28 => ⟨S8x32x4x128x128, .f32⟩
  | 29 => ⟨S8x32x4x128x128, .f32⟩
  | 30 => ⟨S8x32x4x128x128, .f32⟩
  | 31 => ⟨S8x32x128x4x128, .f32⟩
  | 32 => ⟨S4x1, .f32⟩
  | 33 => ⟨S_, .i32⟩
  | 34 => ⟨S128, .i32⟩
  | 35 => ⟨S128, .i32⟩
  | 36 => ⟨S128, .f32⟩
  | 37 => ⟨S1x128, .f32⟩
  | 38 => ⟨S4x128, .f32⟩
  | 39 => ⟨S4x128, .f32⟩
  | 40 => ⟨S4x128, .f32⟩
  | 41 => ⟨S4x128, .f32⟩
  | 42 => ⟨S128x4, .f32⟩
  | 43 => ⟨S1x1x128x4x1, .f32⟩
  | 44 => ⟨S8x32x128x4x64, .f32⟩
  | 45 => ⟨S8x32x128x4x64, .f32⟩
  | 46 => ⟨S8x32x4x128x128, .f32⟩
  | 47 => ⟨S8x32x128x4x128, .f32⟩
  | 48 => ⟨S8x32x128x4x128, .f32⟩
  | 49 => ⟨S8x4096x4x128, .f32⟩
  | 50 => ⟨S_, .f32⟩
  | 51 => ⟨S8x4096x4, .f32⟩
  | 52 => ⟨S8x4096x4x1, .f32⟩
  | 53 => ⟨S_, .f32⟩
  | 54 => ⟨S8x4096x4x1, .f32⟩
  | 55 => ⟨S8x4096x4x1, .f32⟩
  | 56 => ⟨S8x4096x4x128, .f32⟩
  | 57 => ⟨S8x4096x4x128, .f32⟩
  | 58 => ⟨S8x4096x4x128, .f32⟩
  | 59 => ⟨S_, .f32⟩
  | 60 => ⟨S8x4096x4, .f32⟩
  | 61 => ⟨S8x4096x4x1, .f32⟩
  | 62 => ⟨S_, .f32⟩
  | 63 => ⟨S8x4096x4x1, .f32⟩
  | 64 => ⟨S8x4096x4x1, .f32⟩
  | 65 => ⟨S8x4096x4x128, .f32⟩
  | 66 => ⟨S8x4096x4x128, .f32⟩
  | 67 => ⟨S_, .f32⟩
  | 68 => ⟨S8x4096x4x1, .f32⟩
  | 69 => ⟨S8x4096x4x1, .f32⟩
  | 70 => ⟨S8x4096x4x1, .f32⟩
  | 71 => ⟨S8x4096x4x128, .f32⟩
  | 72 => ⟨S8x4096x4x128, .f32⟩
  | 73 => ⟨S8x4096x512, .f32⟩
  | 74 => ⟨S1x1x512, .f32⟩
  | 75 => ⟨S8x4096x512, .f32⟩
  | 76 => ⟨S8x4096x512, .f32⟩
  | 77 => ⟨S8x4096x512, .f32⟩
  | 78 => ⟨S8x4096x128, .f32⟩
  | 79 => ⟨S8x4096x128, .f32⟩
  | 80 => ⟨S8x4096x128, .f32⟩
  | 81 => ⟨S8x4096x128, .f32⟩
  | 82 => ⟨S8x4096x128, .f32⟩
  | 83 => ⟨S8x4096x128, .f32⟩
  | 84 => ⟨S8x4096x24, .f32⟩
  | 85 => ⟨S8x4096x256, .f32⟩
  | 86 => ⟨S8x4096x256, .f32⟩
  | 87 => ⟨S8x4096x512, .f32⟩
  | 88 => ⟨S8x4096x512, .f32⟩
  | 89 => ⟨S8x4096x512, .f32⟩
  | 90 => ⟨S8x4096x512, .f32⟩
  | 91 => ⟨S8x4096x3072, .f32⟩
  | 92 => ⟨S8x4096x512, .f32⟩
  | 93 => ⟨S8x4096x512, .f32⟩
  | 94 => ⟨S_, .f32⟩
  | 95 => ⟨S8x4096x512, .f32⟩
  | 96 => ⟨S8x4096x512, .f32⟩
  | 97 => ⟨S_, .f32⟩
  | 98 => ⟨S8x4096x512, .f32⟩
  | 99 => ⟨S8x4096x512, .f32⟩
  | 100 => ⟨S8x4096x512, .f32⟩
  | 101 => ⟨S8x4096x512, .f32⟩
  | 102 => ⟨S8x4096x512, .bf16⟩
  | _ => ⟨S8x4096x6936, .f32⟩

abbrev hbmTy (i : Nat) : BufTy := match i / 128 with
  | 0 => hbmTy0_0 i
  | 1 => hbmTy0_1 i
  | 2 => hbmTy0_2 i
  | _ => ⟨S8x4096x6936, .f32⟩

abbrev bufTy : (tb : Table) → Fin (tcTables nBuf tb) → BufTy
  | .hbm, ⟨i, _⟩ => hbmTy i
  | _, _ => ⟨S8x4096x6936, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_cst_1 : Ref sig .tc := ⟨.hbm, 56, rfl⟩
abbrev main_v52 : Ref sig .tc := ⟨.hbm, 57, rfl⟩
abbrev main_v53 : Ref sig .tc := ⟨.hbm, 58, rfl⟩
abbrev main_cst_2 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_cst_3 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_cst_4 : Ref sig .tc := ⟨.hbm, 95, rfl⟩
abbrev main_v88 : Ref sig .tc := ⟨.hbm, 96, rfl⟩
abbrev main_v89 : Ref sig .tc := ⟨.hbm, 97, rfl⟩
abbrev main_cst_5 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_c : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_cst_6 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_cst_7 : Ref sig .tc := ⟨.hbm, 125, rfl⟩
abbrev main_v114 : Ref sig .tc := ⟨.hbm, 126, rfl⟩
abbrev main_v115 : Ref sig .tc := ⟨.hbm, 127, rfl⟩
abbrev main_cst_8 : Ref sig .tc := ⟨.hbm, 128, rfl⟩
abbrev main_v116 : Ref sig .tc := ⟨.hbm, 129, rfl⟩
abbrev main_c_9 : Ref sig .tc := ⟨.hbm, 130, rfl⟩
abbrev main_v117_0 : Ref sig .tc := ⟨.hbm, 131, rfl⟩
abbrev main_v117_1 : Ref sig .tc := ⟨.hbm, 132, rfl⟩
abbrev main_v117_2 : Ref sig .tc := ⟨.hbm, 133, rfl⟩
abbrev main_v117_3 : Ref sig .tc := ⟨.hbm, 134, rfl⟩
abbrev main_v117_4 : Ref sig .tc := ⟨.hbm, 135, rfl⟩
abbrev main_while0c_c_30 : Ref sig .tc := ⟨.hbm, 136, rfl⟩
abbrev main_while0c_v295 : Ref sig .tc := ⟨.hbm, 137, rfl⟩
abbrev main_while0b_call0_c : Ref sig .tc := ⟨.hbm, 138, rfl⟩
abbrev main_while0b_call0_c_0 : Ref sig .tc := ⟨.hbm, 139, rfl⟩
abbrev main_while0b_call0_c_1 : Ref sig .tc := ⟨.hbm, 140, rfl⟩
abbrev main_while0b_call0_c_2 : Ref sig .tc := ⟨.hbm, 141, rfl⟩
abbrev main_while0b_call0_v0 : Ref sig .tc := ⟨.hbm, 142, rfl⟩
abbrev main_while0b_v295 : Ref sig .tc := ⟨.hbm, 143, rfl⟩
abbrev main_while0b_v296 : Ref sig .tc := ⟨.hbm, 144, rfl⟩
abbrev main_while0b_v297 : Ref sig .tc := ⟨.hbm, 145, rfl⟩
abbrev main_while0b_v298 : Ref sig .tc := ⟨.hbm, 146, rfl⟩
abbrev main_while0b_call1_v0 : Ref sig .tc := ⟨.hbm, 147, rfl⟩
abbrev main_while0b_call1_c : Ref sig .tc := ⟨.hbm, 148, rfl⟩
abbrev main_while0b_call1_c_0 : Ref sig .tc := ⟨.hbm, 149, rfl⟩
abbrev main_while0b_call1_c_1 : Ref sig .tc := ⟨.hbm, 150, rfl⟩
abbrev main_while0b_call1_c_2 : Ref sig .tc := ⟨.hbm, 151, rfl⟩
abbrev main_while0b_v299 : Ref sig .tc := ⟨.hbm, 152, rfl⟩
abbrev main_while0b_c_30 : Ref sig .tc := ⟨.hbm, 153, rfl⟩
abbrev main_while0b_v300 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_10 : Ref sig .tc := ⟨.hbm, 175, rfl⟩
abbrev main_v138 : Ref sig .tc := ⟨.hbm, 176, rfl⟩
abbrev main_v139 : Ref sig .tc := ⟨.hbm, 177, rfl⟩
abbrev main_cst_11 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_cst_12 : Ref sig .tc := ⟨.hbm, 210, rfl⟩
abbrev main_v171 : Ref sig .tc := ⟨.hbm, 211, rfl⟩
abbrev main_v172 : Ref sig .tc := ⟨.hbm, 212, rfl⟩
abbrev main_cst_13 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_cst_14 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_cst_15 : Ref sig .tc := ⟨.hbm, 249, rfl⟩
abbrev main_v207 : Ref sig .tc := ⟨.hbm, 250, rfl⟩
abbrev main_v208 : Ref sig .tc := ⟨.hbm, 251, rfl⟩
abbrev main_cst_16 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_c_17 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_c_18 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_cst_19 : Ref sig .tc := ⟨.hbm, 277, rfl⟩
abbrev main_call2_v0 : Ref sig .tc := ⟨.hbm, 278, rfl⟩
abbrev main_call2_v1 : Ref sig .tc := ⟨.hbm, 279, rfl⟩
abbrev main_call2_v2 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_c_20 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_cst_21 : Ref sig .tc := ⟨.hbm, 306, rfl⟩
abbrev main_v255 : Ref sig .tc := ⟨.hbm, 307, rfl⟩
abbrev main_v256 : Ref sig .tc := ⟨.hbm, 308, rfl⟩
abbrev main_cst_22 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_cst_23 : Ref sig .tc := ⟨.hbm, 315, rfl⟩
abbrev main_v262 : Ref sig .tc := ⟨.hbm, 316, rfl⟩
abbrev main_v263 : Ref sig .tc := ⟨.hbm, 317, rfl⟩
abbrev main_cst_24 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_cst_25 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_call3_v0 : Ref sig .tc := ⟨.hbm, 348, rfl⟩
abbrev main_call3_v1 : Ref sig .tc := ⟨.hbm, 349, rfl⟩
abbrev main_call3_cst : Ref sig .tc := ⟨.hbm, 350, rfl⟩
abbrev main_call3_v2 : Ref sig .tc := ⟨.hbm, 351, rfl⟩
abbrev main_call3_v3 : Ref sig .tc := ⟨.hbm, 352, rfl⟩
abbrev main_call3_cst_0 : Ref sig .tc := ⟨.hbm, 353, rfl⟩
abbrev main_call3_v4 : Ref sig .tc := ⟨.hbm, 354, rfl⟩
abbrev main_call3_v5 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩

abbrev nD : Nat := 1
abbrev τ : Topo := Topo.v7x

variable {F : FTy → Type} [FloatOps F]

abbrev main_while0_count : Scf.Loop 32 := ⟨0#32, 32#32, 1#32⟩
-- ==== FfnKernel.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== MergeKernel.lean ====
abbrev S8x4096x1024 : Shape := ⟨3, ![8, 4096, 1024]⟩
abbrev S1024 : Shape := ⟨1, ![1024]⟩
abbrev S1024x6936 : Shape := ⟨2, ![1024, 6936]⟩
abbrev S8x4096x512 : Shape := ⟨3, ![8, 4096, 512]⟩
abbrev S3x512x1024 : Shape := ⟨3, ![3, 512, 1024]⟩
abbrev S1024x1024 : Shape := ⟨2, ![1024, 1024]⟩
abbrev S1024x512 : Shape := ⟨2, ![1024, 512]⟩
abbrev S_ : Shape := ⟨0, ![]⟩
abbrev S1024x24 : Shape := ⟨2, ![1024, 24]⟩
abbrev S1024x104 : Shape := ⟨2, ![1024, 104]⟩
abbrev S1024x256 : Shape := ⟨2, ![1024, 256]⟩
abbrev S1024x4x2x32 : Shape := ⟨4, ![1024, 4, 2, 32]⟩
abbrev S1024x2x4x32 : Shape := ⟨4, ![1024, 2, 4, 32]⟩
abbrev S1024x128 : Shape := ⟨2, ![1024, 128]⟩
abbrev S1024x3968 : Shape := ⟨2, ![1024, 3968]⟩
abbrev S1024x3072 : Shape := ⟨2, ![1024, 3072]⟩
abbrev S32768x1024 : Shape := ⟨2, ![32768, 1024]⟩
abbrev S1x1024 : Shape := ⟨2, ![1, 1024]⟩
abbrev S32768x512 : Shape := ⟨2, ![32768, 512]⟩
abbrev S512x32768 : Shape := ⟨2, ![512, 32768]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 52
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6936, .f32⟩
  | .hbm, ⟨3, _⟩ => ⟨S8x4096x512, .f32⟩
  | .hbm, ⟨4, _⟩ => ⟨S8x4096x512, .f32⟩
  | .hbm, ⟨5, _⟩ => ⟨S8x4096x512, .f32⟩
  | .hbm, ⟨6, _⟩ => ⟨S3x512x1024, .f32⟩
  | .hbm, ⟨7, _⟩ => ⟨S1024x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x24, .f32⟩
  | .hbm, ⟨15, _⟩ => ⟨S_, .f32⟩
  | .hbm, ⟨16, _⟩ => ⟨S1024x104, .f32⟩
  | .hbm, ⟨17, _⟩ => ⟨S1024x512, .f32⟩
  | .hbm, ⟨18, _⟩ => ⟨S1024x512, .f32⟩
  | .hbm, ⟨19, _⟩ => ⟨S1024x256, .f32⟩
  | .hbm, ⟨20, _⟩ => ⟨S1024x4x2x32, .f32⟩
  | .hbm, ⟨21, _⟩ => ⟨S1024x2x4x32, .f32⟩
  | .hbm, ⟨22, _⟩ => ⟨S1024x256, .f32⟩
  | .hbm, ⟨23, _⟩ => ⟨S1024x256, .f32⟩
  | .hbm, ⟨24, _⟩ => ⟨S1024x4x2x32, .f32⟩
  | .hbm, ⟨25, _⟩ => ⟨S1024x2x4x32, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S1024x3968, .f32⟩
  | .hbm, ⟨37, _⟩ => ⟨S1024x3968, .bf16⟩
  | .hbm, ⟨38, _⟩ => ⟨S1024x3072, .f32⟩
  | .hbm, ⟨39, _⟩ => ⟨S1024x3072, .bf16⟩
  | .hbm, ⟨40, _⟩ => ⟨S32768x1024, .f32⟩
  | .hbm, ⟨41, _⟩ => ⟨S1x1024, .f32⟩
  | .hbm, ⟨42, _⟩ => ⟨S32768x512, .f32⟩
  | .hbm, ⟨43, _⟩ => ⟨S512x32768, .f32⟩
  | .hbm, ⟨44, _⟩ => ⟨S512x32768, .bf16⟩
  | .hbm, ⟨45, _⟩ => ⟨S32768x512, .f32⟩
  | .hbm, ⟨46, _⟩ => ⟨S32768x512, .bf16⟩
  | .hbm, ⟨47, _⟩ => ⟨S32768x512, .f32⟩
  | .hbm, ⟨48, _⟩ => ⟨S32768x512, .bf16⟩
  | .hbm, ⟨49, _⟩ => ⟨S3x512x1024, .bf16⟩
  | .hbm, ⟨50, _⟩ => ⟨S1024x1024, .bf16⟩
  | .hbm, ⟨51, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8x4096x1024 : Shape := ⟨3, ![8, 4096, 1024]⟩
abbrev S1024 : Shape := ⟨1, ![1024]⟩
abbrev S1024x6936 : Shape := ⟨2, ![1024, 6936]⟩
abbrev S8x4096x512 : Shape := ⟨3, ![8, 4096, 512]⟩
abbrev S3x512x1024 : Shape := ⟨3, ![3, 512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6936 : Shape := ⟨3, ![8, 4096, 6936]⟩
abbrev S8x4096x128 : Shape := ⟨3, ![8, 4096, 128]⟩
abbrev S8x4096x24 : Shape := ⟨3, ![8, 4096, 24]⟩
abbrev S8x4096x256 : Shape := ⟨3, ![8, 4096, 256]⟩
abbrev S8x4096x3072 : Shape := ⟨3, ![8, 4096, 3072]⟩
abbrev S8x4096x1x512 : Shape := ⟨4, ![8, 4096, 1, 512]⟩
abbrev S8x4096x3x512 : Shape := ⟨4, ![8, 4096, 3, 512]⟩
abbrev S3x1024x8x4096 : Shape := ⟨4, ![3, 1024, 8, 4096]⟩
abbrev S8x4096x3x1024 : Shape := ⟨4, ![8, 4096, 3, 1024]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6936, .f32⟩
  | .hbm, ⟨3, _⟩ => ⟨S8x4096x512, .f32⟩
  | .hbm, ⟨4, _⟩ => ⟨S8x4096x512, .f32⟩
  | .hbm, ⟨5, _⟩ => ⟨S8x4096x512, .f32⟩
  | .hbm, ⟨6, _⟩ => ⟨S3x512x1024, .f32⟩
  | .hbm, ⟨7, _⟩ => ⟨S1024x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x6936, .f32⟩
  | .hbm, ⟨25, _⟩ => ⟨S8x4096x512, .f32⟩
  | .hbm, ⟨26, _⟩ => ⟨S8x4096x128, .f32⟩
  | .hbm, ⟨27, _⟩ => ⟨S8x4096x128, .f32⟩
  | .hbm, ⟨28, _⟩ => ⟨S8x4096x128, .f32⟩
  | .hbm, ⟨29, _⟩ => ⟨S8x4096x128, .f32⟩
  | .hbm, ⟨30, _⟩ => ⟨S8x4096x128, .f32⟩
  | .hbm, ⟨31, _⟩ => ⟨S8x4096x128, .f32⟩
  | .hbm, ⟨32, _⟩ => ⟨S8x4096x24, .f32⟩
  | .hbm, ⟨33, _⟩ => ⟨S8x4096x256, .f32⟩
  | .hbm, ⟨34, _⟩ => ⟨S8x4096x256, .f32⟩
  | .hbm, ⟨35, _⟩ => ⟨S8x4096x512, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S8x4096x3072, .f32⟩
  | .hbm, ⟨40, _⟩ => ⟨S8x4096x1x512, .f32⟩
  | .hbm, ⟨41, _⟩ => ⟨S8x4096x1x512, .f32⟩
  | .hbm, ⟨42, _⟩ => ⟨S8x4096x1x512, .f32⟩
  | .hbm, ⟨43, _⟩ => ⟨S8x4096x3x512, .f32⟩
  | .hbm, ⟨44, _⟩ => ⟨S3x1024x8x4096, .f32⟩
  | .hbm, ⟨45, _⟩ => ⟨S8x4096x3x1024, .f32⟩
  | .hbm, ⟨46, _⟩ => ⟨S8x4096x3072, .f32⟩
  | .hbm, ⟨47, _⟩ => ⟨S8x4096x3072, .f32⟩
  | .hbm, ⟨48, _⟩ => ⟨S_, .f32⟩
  | .hbm, ⟨49, _⟩ => ⟨S8x4096x3072, .f32⟩
  | .hbm, ⟨50, _⟩ => ⟨S8x4096x3072, .f32⟩
  | .hbm, ⟨51, _⟩ => ⟨S_, .f32⟩
  | .hbm, ⟨52, _⟩ => ⟨S8x4096x3072, .f32⟩
  | .hbm, ⟨53, _⟩ => ⟨S8x4096x3072, .f32⟩
  | .hbm, ⟨54, _⟩ => ⟨S8x4096x3x1024, .f32⟩
  | .hbm, ⟨55, _⟩ => ⟨S8x4096x3x1024, .f32⟩
  | .hbm, ⟨56, _⟩ => ⟨S_, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== InKernel.lean ====
abbrev S8x4096x1024 : Shape := ⟨3, ![8, 4096, 1024]⟩
abbrev S1024 : Shape := ⟨1, ![1024]⟩
abbrev S1024x6936 : Shape := ⟨2, ![1024, 6936]⟩
abbrev S31x512 : Shape := ⟨2, ![31, 512]⟩
abbrev S512 : Shape := ⟨1, ![512]⟩
abbrev S1024x512 : Shape := ⟨2, ![1024, 512]⟩
abbrev S_ : Shape := ⟨0, ![]⟩
abbrev S1024x24 : Shape := ⟨2, ![1024, 24]⟩
abbrev S1024x104 : Shape := ⟨2, ![1024, 104]⟩
abbrev S1024x256 : Shape := ⟨2, ![1024, 256]⟩
abbrev S1024x4x2x32 : Shape := ⟨4, ![1024, 4, 2, 32]⟩
abbrev S1024x2x4x32 : Shape := ⟨4, ![1024, 2, 4, 32]⟩
abbrev S1024x128 : Shape := ⟨2, ![1024, 128]⟩
abbrev S1024x3968 : Shape := ⟨2, ![1024, 3968]⟩
abbrev S1024x3072 : Shape := ⟨2, ![1024, 3072]⟩
abbrev S1x512 : Shape := ⟨2, ![1, 512]⟩
abbrev S32x512 : Shape := ⟨2, ![32, 512]⟩
abbrev S32768x1024 : Shape := ⟨2, ![32768, 1024]⟩
abbrev S1x1024 : Shape := ⟨2, ![1, 1024]⟩
abbrev S32768x2048 : Shape := ⟨2, ![32768, 2048]⟩
abbrev S32768x128 : Shape := ⟨2, ![32768, 128]⟩
abbrev S32768x512 : Shape := ⟨2, ![32768, 512]⟩
abbrev S512x32768 : Shape := ⟨2, ![512, 32768]⟩
abbrev S128x32768 : Shape := ⟨2, ![128, 32768]⟩
abbrev S512x1024 : Shape := ⟨2, ![512, 1024]⟩
abbrev S512x2048 : Shape := ⟨2, ![512, 2048]⟩
abbrev S512x128 : Shape := ⟨2, ![512, 128]⟩
abbrev S512x512 : Shape := ⟨2, ![512, 512]⟩
abbrev S128x512 : Shape := ⟨2, ![128, 512]⟩
abbrev S8x544x512 : Shape := ⟨3, ![8, 544, 512]⟩
abbrev S1x32x512 : Shape := ⟨3, ![1, 32, 512]⟩
abbrev S512x1 : Shape := ⟨2, ![512, 1]⟩
abbrev S1024x1024 : Shape := ⟨2, ![1024, 1024]⟩
abbrev S1024x2944 : Shape := ⟨2, ![1024, 2944]⟩
abbrev S512x2944 : Shape := ⟨2, ![512, 2944]⟩
abbrev S1x512x512 : Shape := ⟨3, ![1, 512, 512]⟩
abbrev S1x536x512 : Shape := ⟨3, ![1, 536, 512]⟩
abbrev S536x512 : Shape := ⟨2, ![536, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 53
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6936, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x24, .f32⟩
  | .hbm, ⟨14, _⟩ => ⟨S_, .f32⟩
  | .hbm, ⟨15, _⟩ => ⟨S1024x104, .f32⟩
  | .hbm, ⟨16, _⟩ => ⟨S1024x512, .f32⟩
  | .hbm, ⟨17, _⟩ => ⟨S1024x512, .f32⟩
  | .hbm, ⟨18, _⟩ => ⟨S1024x256, .f32⟩
  | .hbm, ⟨19, _⟩ => ⟨S1024x4x2x32, .f32⟩
  | .hbm, ⟨20, _⟩ => ⟨S1024x2x4x32, .f32⟩
  | .hbm, ⟨21, _⟩ => ⟨S1024x256, .f32⟩
  | .hbm, ⟨22, _⟩ => ⟨S1024x256, .f32⟩
  | .hbm, ⟨23, _⟩ => ⟨S1024x4x2x32, .f32⟩
  | .hbm, ⟨24, _⟩ => ⟨S1024x2x4x32, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x3968, .f32⟩
  | .hbm, ⟨36, _⟩ => ⟨S1024x3968, .bf16⟩
  | .hbm, ⟨37, _⟩ => ⟨S1024x3072, .f32⟩
  | .hbm, ⟨38, _⟩ => ⟨S1024x3072, .bf16⟩
  | .hbm, ⟨39, _⟩ => ⟨S_, .f32⟩
  | .hbm, ⟨40, _⟩ => ⟨S1x512, .f32⟩
  | .hbm, ⟨41, _⟩ => ⟨S32x512, .f32⟩
  | .hbm, ⟨42, _⟩ => ⟨S32768x1024, .f32⟩
  | .hbm, ⟨43, _⟩ => ⟨S1x1024, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S32768x2048, .f32⟩
  | .hbm, ⟨48, _⟩ => ⟨S32768x128, .f32⟩
  | .hbm, ⟨49, _⟩ => ⟨S32768x128, .f32⟩
  | .hbm, ⟨50, _⟩ => ⟨S32768x512, .bf16⟩
  | .hbm, ⟨51, _⟩ => ⟨S512x32768, .bf16⟩
  | .hbm, ⟨52, _⟩ => ⟨S128x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3968, .bf16⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x2048, .f32⟩
  | .local _ .vmem, ⟨9, _⟩ => ⟨S512x2048, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S128x512, .f32⟩
  | .local _ .vmem, ⟨19, _⟩ => ⟨S128x512, .f32⟩
  | .local _ .vmem, ⟨20, _⟩ => ⟨S8x544x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev main_v36_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InRefIdeal.lean ====
abbrev S8x4096x1024 : Shape := ⟨3, ![8, 4096, 1024]⟩
abbrev S1024 : Shape := ⟨1, ![1024]⟩
abbrev S1024x6936 : Shape := ⟨2, ![1024, 6936]⟩
abbrev S31x512 : Shape := ⟨2, ![31, 512]⟩
abbrev S512 : Shape := ⟨1, ![512]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6936 : Shape := ⟨2, ![32768, 6936]⟩
abbrev S32768x512 : Shape := ⟨2, ![32768, 512]⟩
abbrev S32768x128 : Shape := ⟨2, ![32768, 128]⟩
abbrev S32768x24 : Shape := ⟨2, ![32768, 24]⟩
abbrev S32768x256 : Shape := ⟨2, ![32768, 256]⟩
abbrev S32768x3072 : Shape := ⟨2, ![32768, 3072]⟩
abbrev S32768x4x2x32 : Shape := ⟨4, ![32768, 4, 2, 32]⟩
abbrev S32768x2x4x32 : Shape := ⟨4, ![32768, 2, 4, 32]⟩
abbrev S32768x2048 : Shape := ⟨2, ![32768, 2048]⟩
abbrev S512x32768 : Shape := ⟨2, ![512, 32768]⟩
abbrev S32768x104 : Shape := ⟨2, ![32768, 104]⟩
abbrev S128x32768 : Shape := ⟨2, ![128, 32768]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6936, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x6936, .f32⟩
  | .hbm, ⟨25, _⟩ => ⟨S32768x512, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S32768x128, .f32⟩
  | .hbm, ⟨31, _⟩ => ⟨S32768x128, .f32⟩
  | .hbm, ⟨32, _⟩ => ⟨S32768x24, .f32⟩
  | .hbm, ⟨33, _⟩ => ⟨S32768x256, .f32⟩
  | .hbm, ⟨34, _⟩ => ⟨S32768x256, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x3072, .f32⟩
  | .hbm, ⟨40, _⟩ => ⟨S32768x4x2x32, .f32⟩
  | .hbm, ⟨41, _⟩ => ⟨S32768x2x4x32, .f32⟩
  | .hbm, ⟨42, _⟩ => ⟨S32768x256, .f32⟩
  | .hbm, ⟨43, _⟩ => ⟨S32768x4x2x32, .f32⟩
  | .hbm, ⟨44, _⟩ => ⟨S32768x2x4x32, .f32⟩
  | .hbm, ⟨45, _⟩ => ⟨S32768x256, .f32⟩
  | .hbm, ⟨46, _⟩ => ⟨S_, .f32⟩
  | .hbm, ⟨47, _⟩ => ⟨S32768x256, .f32⟩
  | .hbm, ⟨48, _⟩ => ⟨S32768x256, .f32⟩
  | .hbm, ⟨49, _⟩ => ⟨S32768x2048, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S512x32768, .f32⟩
  | .hbm, ⟨54, _⟩ => ⟨S512x32768, .bf16⟩
  | .hbm, ⟨55, _⟩ => ⟨S_, .f32⟩
  | .hbm, ⟨56, _⟩ => ⟨S32768x104, .f32⟩
  | .hbm, ⟨57, _⟩ => ⟨S32768x128, .f32⟩
  | .hbm, ⟨58, _⟩ => ⟨S128x32768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== CmpKernel.lean ====
abbrev S8x4096x128 : Shape := ⟨3, ![8, 4096, 128]⟩
abbrev S32x64 : Shape := ⟨2, ![32, 64]⟩
abbrev S32x64x128 : Shape := ⟨3, ![32, 64, 128]⟩
abbrev S128x64 : Shape := ⟨2, ![128, 64]⟩
abbrev S8x256x2048 : Shape := ⟨3, ![8, 256, 2048]⟩
abbrev S2x2 : Shape := ⟨2, ![2, 2]⟩
abbrev S_ : Shape := ⟨0, ![]⟩
abbrev S2x16x1x64 : Shape := ⟨4, ![2, 16, 1, 64]⟩
abbrev S1x2x1x16x1x1x1x64 : Shape := ⟨8, ![1, 2, 1, 16, 1, 1, 1, 64]⟩
abbrev S1x2x1x16x2x1x1x64 : Shape := ⟨8, ![1, 2, 1, 16, 2, 1, 1, 64]⟩
abbrev S2x16x2x64 : Shape := ⟨4, ![2, 16, 2, 64]⟩
abbrev S2x2048 : Shape := ⟨2, ![2, 2048]⟩
abbrev S2x16x64x128 : Shape := ⟨4, ![2, 16, 64, 128]⟩
abbrev S2x16x1x64x1x128 : Shape := ⟨6, ![2, 16, 1, 64, 1, 128]⟩
abbrev S1x1x2x1x2x1 : Shape := ⟨6, ![1, 1, 2, 1, 2, 1]⟩
abbrev S2x16x2x64x2x128 : Shape := ⟨6, ![2, 16, 2, 64, 2, 128]⟩
abbrev S2x2048x256 : Shape := ⟨3, ![2, 2048, 256]⟩
abbrev S1x128x1x64 : Shape := ⟨4, ![1, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S8x256x128 : Shape := ⟨3, ![8, 256, 128]⟩
abbrev S1x256x2048 : Shape := ⟨3, ![1, 256, 2048]⟩
abbrev S1x256x128 : Shape := ⟨3, ![1, 256, 128]⟩
abbrev S256x2048 : Shape := ⟨2, ![256, 2048]⟩
abbrev S1x2048 : Shape := ⟨2, ![1, 2048]⟩
abbrev S1x2048x256 : Shape := ⟨3, ![1, 2048, 256]⟩
abbrev S2048x256 : Shape := ⟨2, ![2048, 256]⟩
abbrev S256x256 : Shape := ⟨2, ![256, 256]⟩
abbrev S8x255x128 : Shape := ⟨3, ![8, 255, 128]⟩

abbrev nBuf : Space → Nat
  | .hbm => 68
  | .vmem => 14
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S32x64, .f32⟩
  | .hbm, ⟨3, _⟩ => ⟨S32x64x128, .f32⟩
  | .hbm, ⟨4, _⟩ => ⟨S128x64, .f32⟩
  | .hbm, ⟨5, _⟩ => ⟨S32x64, .f32⟩
  | .hbm, ⟨6, _⟩ => ⟨S32x64x128, .f32⟩
  | .hbm, ⟨7, _⟩ => ⟨S128x64, .f32⟩
  | .hbm, ⟨8, _⟩ => ⟨S8x256x2048, .f32⟩
  | .hbm, ⟨9, _⟩ => ⟨S8x256x2048, .f32⟩
  | .hbm, ⟨10, _⟩ => ⟨S2x2, .i32⟩
  | .hbm, ⟨11, _⟩ => ⟨S2x2, .i32⟩
  | .hbm, ⟨12, _⟩ => ⟨S_, .i32⟩
  | .hbm, ⟨13, _⟩ => ⟨S2x2, .i32⟩
  | .hbm, ⟨14, _⟩ => ⟨S2x2, .i32⟩
  | .hbm, ⟨15, _⟩ => ⟨S2x2, .i1⟩
  | .hbm, ⟨16, _⟩ => ⟨S2x2, .f32⟩
  | .hbm, ⟨17, _⟩ => ⟨S2x16x1x64, .f32⟩
  | .hbm, ⟨18, _⟩ => ⟨S1x2x1x16x1x1x1x64, .f32⟩
  | .hbm, ⟨19, _⟩ => ⟨S1x2x1x16x2x1x1x64, .f32⟩
  | .hbm, ⟨20, _⟩ => ⟨S2x16x2x64, .f32⟩
  | .hbm, ⟨21, _⟩ => ⟨S2x2048, .f32⟩
  | .hbm, ⟨22, _⟩ => ⟨S2x16x64x128, .f32⟩
  | .hbm, ⟨23, _⟩ => ⟨S2x16x1x64x1x128, .f32⟩
  | .hbm, ⟨24, _⟩ => ⟨S1x1x2x1x2x1, .f32⟩
  | .hbm, ⟨25, _⟩ => ⟨S2x16x2x64x2x128, .f32⟩
  | .hbm, ⟨26, _⟩ => ⟨S2x16x2x64x2x128, .f32⟩
  | .hbm, ⟨27, _⟩ => ⟨S2x16x2x64x2x128, .f32⟩
  | .hbm, ⟨28, _⟩ => ⟨S2x2048x256, .f32⟩
  | .hbm, ⟨29, _⟩ => ⟨S1x128x1x64, .f32⟩
  | .hbm, ⟨30, _⟩ => ⟨S2x1x2x1, .f32⟩
  | .hbm, ⟨31, _⟩ => ⟨S2x128x2x64, .f32⟩
  | .hbm, ⟨32, _⟩ => ⟨S2x128x2x64, .f32⟩
  | .hbm, ⟨33, _⟩ => ⟨S2x128x2x64, .f32⟩
  | .hbm, ⟨34, _⟩ => ⟨S256x128, .f32⟩
  | .hbm, ⟨35, _⟩ => ⟨S2x2048x256, .bf16⟩
  | .hbm, ⟨36, _⟩ => ⟨S256x128, .bf16⟩
  | .hbm, ⟨37, _⟩ => ⟨S2x2, .i32⟩
  | .hbm, ⟨38, _⟩ => ⟨S2x2, .i32⟩
  | .hbm, ⟨39, _⟩ => ⟨S_, .i32⟩
  | .hbm, ⟨40, _⟩ => ⟨S2x2, .i32⟩
  | .hbm, ⟨41, _⟩ => ⟨S2x2, .i32⟩
  | .hbm, ⟨42, _⟩ => ⟨S2x2, .i1⟩
  | .hbm, ⟨43, _⟩ => ⟨S2x2, .f32⟩
  | .hbm, ⟨44, _⟩ => ⟨S2x16x1x64, .f32⟩
  | .hbm, ⟨45, _⟩ => ⟨S1x2x1x16x1x1x1x64, .f32⟩
  | .hbm, ⟨46, _⟩ => ⟨S1x2x1x16x2x1x1x64, .f32⟩
  | .hbm, ⟨47, _⟩ => ⟨S2x16x2x64, .f32⟩
  | .hbm, ⟨48, _⟩ => ⟨S2x2048, .f32⟩
  | .hbm, ⟨49, _⟩ => ⟨S2x16x64x128, .f32⟩
  | .hbm, ⟨50, _⟩ => ⟨S2x16x1x64x1x128, .f32⟩
  | .hbm, ⟨51, _⟩ => ⟨S1x1x2x1x2x1, .f32⟩
  | .hbm, ⟨52, _⟩ => ⟨S2x16x2x64x2x128, .f32⟩
  | .hbm, ⟨53, _⟩ => ⟨S2x16x2x64x2x128, .f32⟩
  | .hbm, ⟨54, _⟩ => ⟨S2x16x2x64x2x128, .f32⟩
  | .hbm, ⟨55, _⟩ => ⟨S2x2048x256, .f32⟩
  | .hbm, ⟨56, _⟩ => ⟨S1x128x1x64, .f32⟩
  | .hbm, ⟨57, _⟩ => ⟨S2x1x2x1, .f32⟩
  | .hbm, ⟨58, _⟩ => ⟨S2x128x2x64, .f32⟩
  | .hbm, ⟨59, _⟩ => ⟨S2x128x2x64, .f32⟩
  | .hbm, ⟨60, _⟩ => ⟨S2x128x2x64, .f32⟩
  | .hbm, ⟨61, _⟩ => ⟨S256x128, .f32⟩
  | .hbm, ⟨62, _⟩ => ⟨S2x2048x256, .bf16⟩
  | .hbm, ⟨63, _⟩ => ⟨S256x128, .bf16⟩
  | .hbm, ⟨64, _⟩ => ⟨S8x256x128, .bf16⟩
  | .hbm, ⟨65, _⟩ => ⟨S8x256x128, .bf16⟩
  | .hbm, ⟨66, _⟩ => ⟨S8x255x128, .bf16⟩
  | .hbm, ⟨67, _⟩ => ⟨S8x255x128, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S2x2048, .f32⟩
  | .local _ .vmem, ⟨5, _⟩ => ⟨S2x2048x256, .bf16⟩
  | .local _ .vmem, ⟨6, _⟩ => ⟨S256x128, .bf16⟩
  | .local _ .vmem, ⟨7, _⟩ => ⟨S2x2048, .f32⟩
  | .local _ .vmem, ⟨8, _⟩ => ⟨S2x2048x256, .bf16⟩
  | .local _ .vmem, ⟨9, _⟩ => ⟨S256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54_0 : Ref sig .tc := ⟨.hbm, 64, rfl⟩
abbrev main_v54_1 : Ref sig .tc := ⟨.hbm, 65, rfl⟩
abbrev main_v55 : Ref sig .tc := ⟨.hbm, 66, rfl⟩
abbrev main_v56 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CmpRefIdeal.lean ====
abbrev S8x4096x128 : Shape := ⟨3, ![8, 4096, 128]⟩
abbrev S32x64 : Shape := ⟨2, ![32, 64]⟩
abbrev S32x64x128 : Shape := ⟨3, ![32, 64, 128]⟩
abbrev S128x64 : Shape := ⟨2, ![128, 64]⟩
abbrev S8x4096x2x64 : Shape := ⟨4, ![8, 4096, 2, 64]⟩
abbrev S8x256x16x2x64 : Shape := ⟨5, ![8, 256, 16, 2, 64]⟩
abbrev S8x255x16x2x64 : Shape := ⟨5, ![8, 255, 16, 2, 64]⟩
abbrev S8x255x32x2x64 : Shape := ⟨5, ![8, 255, 32, 2, 64]⟩
abbrev S1x1x32x1x64 : Shape := ⟨5, ![1, 1, 32, 1, 64]⟩
abbrev S8x255x2x128 : Shape := ⟨4, ![8, 255, 2, 128]⟩
abbrev S_ : Shape := ⟨0, ![]⟩
abbrev S8x255x2x64 : Shape := ⟨4, ![8, 255, 2, 64]⟩
abbrev S8x255x128 : Shape := ⟨3, ![8, 255, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S32x64, .f32⟩
  | .hbm, ⟨3, _⟩ => ⟨S32x64x128, .f32⟩
  | .hbm, ⟨4, _⟩ => ⟨S128x64, .f32⟩
  | .hbm, ⟨5, _⟩ => ⟨S32x64, .f32⟩
  | .hbm, ⟨6, _⟩ => ⟨S32x64x128, .f32⟩
  | .hbm, ⟨7, _⟩ => ⟨S128x64, .f32⟩
  | .hbm, ⟨8, _⟩ => ⟨S8x4096x2x64, .f32⟩
  | .hbm, ⟨9, _⟩ => ⟨S8x256x16x2x64, .f32⟩
  | .hbm, ⟨10, _⟩ => ⟨S8x255x16x2x64, .f32⟩
  | .hbm, ⟨11, _⟩ => ⟨S8x255x16x2x64, .f32⟩
  | .hbm, ⟨12, _⟩ => ⟨S8x255x32x2x64, .f32⟩
  | .hbm, ⟨13, _⟩ => ⟨S1x1x32x1x64, .f32⟩
  | .hbm, ⟨14, _⟩ => ⟨S8x255x32x2x64, .f32⟩
  | .hbm, ⟨15, _⟩ => ⟨S8x255x32x2x64, .f32⟩
  | .hbm, ⟨16, _⟩ => ⟨S8x255x2x128, .f32⟩
  | .hbm, ⟨17, _⟩ => ⟨S8x255x2x128, .f32⟩
  | .hbm, ⟨18, _⟩ => ⟨S8x255x2x128, .f32⟩
  | .hbm, ⟨19, _⟩ => ⟨S_, .f32⟩
  | .hbm, ⟨20, _⟩ => ⟨S8x255x2x128, .f32⟩
  | .hbm, ⟨21, _⟩ => ⟨S8x255x2x128, .f32⟩
  | .hbm, ⟨22, _⟩ => ⟨S8x255x2x128, .f32⟩
  | .hbm, ⟨23, _⟩ => ⟨S_, .f32⟩
  | .hbm, ⟨24, _⟩ => ⟨S8x255x2x128, .f32⟩
  | .hbm, ⟨25, _⟩ => ⟨S8x255x2x128, .f32⟩
  | .hbm, ⟨26, _⟩ => ⟨S8x255x2x128, .f32⟩
  | .hbm, ⟨27, _⟩ => ⟨S_, .f32⟩
  | .hbm, ⟨28, _⟩ => ⟨S8x255x2x128, .f32⟩
  | .hbm, ⟨29, _⟩ => ⟨S8x255x2x128, .f32⟩
  | .hbm, ⟨30, _⟩ => ⟨S_, .f32⟩
  | .hbm, ⟨31, _⟩ => ⟨S8x255x2x128, .f32⟩
  | .hbm, ⟨32, _⟩ => ⟨S8x255x2x128, .f32⟩
  | .hbm, ⟨33, _⟩ => ⟨S8x255x2x128, .f32⟩
  | .hbm, ⟨34, _⟩ => ⟨S8x255x2x64, .f32⟩
  | .hbm, ⟨35, _⟩ => ⟨S8x4096x2x64, .f32⟩
  | .hbm, ⟨36, _⟩ => ⟨S8x256x16x2x64, .f32⟩
  | .hbm, ⟨37, _⟩ => ⟨S8x255x16x2x64, .f32⟩
  | .hbm, ⟨38, _⟩ => ⟨S8x255x16x2x64, .f32⟩
  | .hbm, ⟨39, _⟩ => ⟨S8x255x32x2x64, .f32⟩
  | .hbm, ⟨40, _⟩ => ⟨S1x1x32x1x64, .f32⟩
  | .hbm, ⟨41, _⟩ => ⟨S8x255x32x2x64, .f32⟩
  | .hbm, ⟨42, _⟩ => ⟨S8x255x32x2x64, .f32⟩
  | .hbm, ⟨43, _⟩ => ⟨S8x255x2x128, .f32⟩
  | .hbm, ⟨44, _⟩ => ⟨S8x255x2x128, .f32⟩
  | .hbm, ⟨45, _⟩ => ⟨S8x255x2x128, .f32⟩
  | .hbm, ⟨46, _⟩ => ⟨S_, .f32⟩
  | .hbm, ⟨47, _⟩ => ⟨S8x255x2x128, .f32⟩
  | .hbm, ⟨48, _⟩ => ⟨S8x255x2x128, .f32⟩
  | .hbm, ⟨49, _⟩ => ⟨S8x255x2x128, .f32⟩
  | .hbm, ⟨50, _⟩ => ⟨S_, .f32⟩
  | .hbm, ⟨51, _⟩ => ⟨S8x255x2x128, .f32⟩
  | .hbm, ⟨52, _⟩ => ⟨S8x255x2x128, .f32⟩
  | .hbm, ⟨53, _⟩ => ⟨S8x255x2x128, .f32⟩
  | .hbm, ⟨54, _⟩ => ⟨S_, .f32⟩
  | .hbm, ⟨55, _⟩ => ⟨S8x255x2x128, .f32⟩
  | .hbm, ⟨56, _⟩ => ⟨S8x255x2x128, .f32⟩
  | .hbm, ⟨57, _⟩ => ⟨S_, .f32⟩
  | .hbm, ⟨58, _⟩ => ⟨S8x255x2x128, .f32⟩
  | .hbm, ⟨59, _⟩ => ⟨S8x255x2x128, .f32⟩
  | .hbm, ⟨60, _⟩ => ⟨S8x255x2x128, .f32⟩
  | .hbm, ⟨61, _⟩ => ⟨S8x255x2x64, .f32⟩
  | .hbm, ⟨62, _⟩ => ⟨S8x255x128, .f32⟩
  | .hbm, ⟨63, _⟩ => ⟨S8x255x128, .bf16⟩
  | .hbm, ⟨64, _⟩ => ⟨S8x255x128, .f32⟩
  | .hbm, ⟨65, _⟩ => ⟨S8x255x128, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Rows.lean ====
/- Functions of one row of extended reals, in which the results of the kernels and of the references are written. -/
module

public import Idealize.ShloMosaic.PureOps.Ideal
public import Idealize.ShloMosaic.Lib.Pointwise

@[expose] public section

noncomputable section

namespace Cert.Proof.Rows

open Idealize.ShloMosaic

/-- The reciprocal root mean square of a row of 1024 entries, with the layers' epsilon. -/
def scale (x : Fin 1024 → EReal) : EReal :=
  Ideal.rsqrt (Ideal.div (∑ k, x k * x k) (Ideal.ofBits .f32 0x44800000#32) + Ideal.ofBits .f32 0x358637BD#32)

/-- Root-mean-square normalisation of a row: entry `k` times the row's scale times the gain. -/
def rms (x g : Fin 1024 → EReal) (k : Fin 1024) : EReal := x k * scale x * g k

/-- A sum over 4096 indices is the sum of its four consecutive runs of 1024, added from the first to the last. -/
theorem sum_quarters (f : Fin 4096 → EReal) :
    ∑ k, f k = ((∑ k : Fin 1024, f ⟨k.val, by omega⟩ + ∑ k : Fin 1024, f ⟨1024 + k.val, by omega⟩)
      + ∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) fun k => f (Fin.castAdd 1024 k)
  have h3 := Fin.sum_univ_add (a := 1024) (b := 1024) fun k => f (Fin.castAdd 1024 (Fin.castAdd 1024 k))
  rw [h1, h2, h3]
  rfl

end Cert.Proof.Rows

end
-- ==== Proof.FfnPure.lean ====
/- The feed-forward layer on one row: what the kernel's body stores and what the reference computes are the same
   function of the row, the gains and the two weight matrices. -/
module

public import proofs.«01_k».proof.Proof.Rows
public import proofs.«01_k».proof.Proof.Gen.FfnKernelIdeal.Skeleton
public import proofs.«01_k».proof.Proof.Gen.FfnRefIdeal.Read

@[expose] public section

set_option maxRecDepth 16384

noncomputable section

namespace Cert.Proof.Ffn

open Idealize.ShloMosaic Idealize.ShloMosaic.TcCoe Idealize.SL.Sem Cert.Proof.Rows

/-- A hidden unit: the square of the positive part of the normalised row's product with its column of `W1`. -/
def hid (x g : Fin 1024 → EReal) (w : Fin 1024 → EReal) : EReal :=
  max (∑ k, rms x g k * w k) 0 * max (∑ k, rms x g k * w k) 0

/-- The row after the residual branch is added. -/
def mid (x g : Fin 1024 → EReal) (W1 : Fin 1024 → Fin 4096 → EReal) (W2 : Fin 4096 → Fin 1024 → EReal) (j : Fin 1024) : EReal :=
  x j + ∑ f : Fin 4096, hid x g (fun k => W1 k f) * W2 f j

/-- The layer's output row: the branch added, then the last normalisation. -/
def out (x g : Fin 1024 → EReal) (W1 : Fin 1024 → Fin 4096 → EReal) (W2 : Fin 4096 → Fin 1024 → EReal) (gf : Fin 1024 → EReal)
    (j : Fin 1024) : EReal := rms (mid x g W1 W2) gf j

section Kernel
open Cert.FfnKernelIdeal Cert.FfnKernelIdeal.Gen

/-- The normalised block at a row and a column. -/
theorem pay2_at (X : FVec Ideal S512x1024 .f32) (G : FVec Ideal S1x1024 .f32) (r : Fin 512) (k : Fin 1024) :
    (k0_pay2 X G : FVec Ideal S512x1024 .bf16) (ix2 r k) = rms (fun k => X (ix2 r k)) (fun k => G (ix2 0 k)) k := by
  pointwise [k0_pay2, k0_pay1, rms, scale]

/-- One quarter of the hidden layer, projected back and added to the row. -/
theorem pay3_at (X : FVec Ideal S512x1024 .f32) (G : FVec Ideal S1x1024 .f32) (A B : FVec Ideal S1024x1024 .bf16)
    (r : Fin 512) (j : Fin 1024) :
    (k0_pay3 X G A B : FVec Ideal S512x1024 .f32) (ix2 r j) = X (ix2 r j)
      + ∑ f : Fin 1024, hid (fun k => X (ix2 r k)) (fun k => G (ix2 0 k)) (fun k => A (ix2 k f)) * B (ix2 f j) := by
  pointwise [k0_pay3, k0_pay1, pay2_at, hid]

/-- Another quarter of the hidden layer, projected back. -/
theorem pay4_at (X : FVec Ideal S512x1024 .f32) (G : FVec Ideal S1x1024 .f32) (A B : FVec Ideal S1024x1024 .bf16)
    (r : Fin 512) (j : Fin 1024) :
    (k0_pay4 X G A B : FVec Ideal S512x1024 .f32) (ix2 r j)
      = ∑ f : Fin 1024, hid (fun k => X (ix2 r k)) (fun k => G (ix2 0 k)) (fun k => A (ix2 k f)) * B (ix2 f j) := by
  pointwise [k0_pay4, pay2_at, hid]

/-- The last two quarters added to what came before, and the last normalisation. -/
theorem pay5_at (P : FVec Ideal S512x1024 .bf16) (Q R : FVec Ideal S512x1024 .f32) (A B A' B' : FVec Ideal S1024x1024 .bf16)
    (G : FVec Ideal S1x1024 .f32) (r : Fin 512) (j : Fin 1024) :
    (k0_pay5 P Q R A B A' B' G : FVec Ideal S512x1024 .f32) (ix2 r j)
      = rms (fun j => ((Q (ix2 r j) + R (ix2 r j))
          + ∑ f : Fin 1024, (max (∑ k, P (ix2 r k) * A (ix2 k f)) 0 * max (∑ k, P (ix2 r k) * A (ix2 k f)) 0) * B (ix2 f j))
          + ∑ f : Fin 1024, (max (∑ k, P (ix2 r k) * A' (ix2 k f)) 0 * max (∑ k, P (ix2 r k) * A' (ix2 k f)) 0) * B' (ix2 f j))
          (fun k => G (ix2 0 k)) j := by
  pointwise [k0_pay5, rms, scale]

/-- WHAT THE BODY STORES, read at a row and a column, over the four column blocks of `W1` and the four row blocks of `W2`. -/
theorem body_at (X : FVec Ideal S512x1024 .f32) (G : FVec Ideal S1x1024 .f32) (A B A' B' A2 B2 A3 B3 : FVec Ideal S1024x1024 .bf16)
    (Gf : FVec Ideal S1x1024 .f32) (W1 : FVec Ideal S1024x4096 .bf16) (W2 : FVec Ideal S4096x1024 .bf16)
    (hA : ∀ k f : Fin 1024, A (ix2 k f) = W1 (ix2 k ⟨f.val, by omega⟩)) (hB : ∀ f j : Fin 1024, B (ix2 f j) = W2 (ix2 ⟨f.val, by omega⟩ j))
    (hA' : ∀ k f : Fin 1024, A' (ix2 k f) = W1 (ix2 k ⟨1024 + f.val, by omega⟩)) (hB' : ∀ f j : Fin 1024, B' (ix2 f j) = W2 (ix2 ⟨1024 + f.val, by omega⟩ j))
    (hA2 : ∀ k f : Fin 1024, A2 (ix2 k f) = W1 (ix2 k ⟨2048 + f.val, by omega⟩)) (hB2 : ∀ f j : Fin 1024, B2 (ix2 f j) = W2 (ix2 ⟨2048 + f.val, by omega⟩ j))
    (hA3 : ∀ k f : Fin 1024, A3 (ix2 k f) = W1 (ix2 k ⟨3072 + f.val, by omega⟩)) (hB3 : ∀ f j : Fin 1024, B3 (ix2 f j) = W2 (ix2 ⟨3072 + f.val, by omega⟩ j))
    (r : Fin 512) (j : Fin 1024) :
    (k0_pay5 (k0_pay2 X G) (k0_pay3 X G A B) (k0_pay4 X G A' B') A2 B2 A3 B3 Gf : FVec Ideal S512x1024 .f32) (ix2 r j)
      = out (fun k => X (ix2 r k)) (fun k => G (ix2 0 k)) (fun k f => W1 (ix2 k f)) (fun f j => W2 (ix2 f j)) (fun k => Gf (ix2 0 k)) j := by
  rw [pay5_at]
  refine congrArg (fun q => rms q _ j) (funext fun j' => ?_)
  rw [pay3_at, pay4_at]
  simp only [pay2_at, hA, hB, hA', hB', hA2, hB2, hA3, hB3]
  rw [mid, sum_quarters]
  simp only [hid, add_assoc]

end Kernel

section Reference
open Cert.FfnRefIdeal Cert.FfnRefIdeal.Gen Cert.FfnRefIdeal.Read

/-- WHAT THE REFERENCE COMPUTES, read at a row and a column. -/
theorem ref_at (x0 : FVec Ideal S8x4096x1024 .f32) (x1 : FVec Ideal S1024 .f32) (x2 : FVec Ideal S1024x4096 .f32)
    (x3 : FVec Ideal S4096x1024 .f32) (x4 : FVec Ideal S1024 .f32) (r : Fin 32768) (j : Fin 1024) :
    (val_main_v31 (F := Ideal) x0 x1 x2 x3 x4 : FVec Ideal S32768x1024 .f32) (ix2 r j)
      = out (fun k => x0 (ix3 ⟨r.val / 4096, by omega⟩ ⟨r.val % 4096, by omega⟩ k)) (fun k => x1 (ix1 k)) (fun k f => x2 (ix2 k f))
          (fun f j => x3 (ix2 f j)) (fun k => x4 (ix1 k)) j := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_3, val_main_cst_4, val_main_call0_cst, val_main_call0_v0, out, mid, hid, rms, scale]

end Reference

end Cert.Proof.Ffn

end
-- ==== Proof.FfnValue.lean ====
/- The array the feed-forward kernel leaves is the reference's result. -/
module

public import proofs.«01_k».proof.Proof.FfnPure
public import proofs.«01_k».proof.Proof.Gen.FfnKernelIdeal.Value
public import Idealize.ShloMosaic.Lib.Pipeline.ValueKit
public import Idealize.ShloMosaic.Lib.Claim

@[expose] public section

set_option maxRecDepth 16384

noncomputable section

namespace Cert.Proof.Ffn

open Idealize.ShloMosaic Idealize.ShloMosaic.TcCoe Idealize.SL.Sem
open Idealize.ShloMosaic.Pipeline (Dat)
open Cert.FfnKernelIdeal Cert.FfnKernelIdeal.Gen

variable (m : (ℓ : Loc nD τ sig) → Buf (Elt Ideal) ℓ)

/-- The windows' block indices: the rows move with the grid point, everything else is whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The block of rows at point `t`: row `r` of the block is row `512 t + r` of the flattened input. -/
theorem blk0 (c : Dev nD) (t : Fin cfg0.N) (r : Fin 512) (k : Fin 1024) :
    (iblk m c 0 t : FVec Ideal S512x1024 .f32) (ix2 r k) = (m ((c : Thread nD τ).loc main_arg0) : FVec Ideal S8x4096x1024 .f32)
      (ix3 ⟨(t.val * 512 + r.val) / 4096, by have : t.val < 64 := t.isLt; omega⟩ ⟨(t.val * 512 + r.val) % 4096, by omega⟩ k) := by
  blk_simp [iblk]
  entry_read
  pointwise
  blk_ext [idx t]

/-- The first gain's block is the gain. -/
theorem blk1 (c : Dev nD) (t : Fin cfg0.N) (k : Fin 1024) :
    (iblk m c 1 t : FVec Ideal S1x1024 .f32) (ix2 0 k) = (m ((c : Thread nD τ).loc main_arg1) : FVec Ideal S1024 .f32) (ix1 k) := by
  blk_simp [iblk]
  entry_read
  pointwise
  blk_ext [idx t]

/-- The first weight matrix is staged whole. -/
theorem blk2 (c : Dev nD) (t : Fin cfg0.N) (k : Fin 1024) (f : Fin 4096) :
    (iblk m c 2 t : FVec Ideal S1024x4096 .bf16) (ix2 k f) = (m ((c : Thread nD τ).loc main_arg2) : FVec Ideal S1024x4096 .f32) (ix2 k f) := by
  blk_simp [iblk]
  entry_read
  pointwise
  blk_ext [idx t]

/-- The second weight matrix is staged whole. -/
theorem blk3 (c : Dev nD) (t : Fin cfg0.N) (f : Fin 4096) (k : Fin 1024) :
    (iblk m c 3 t : FVec Ideal S4096x1024 .bf16) (ix2 f k) = (m ((c : Thread nD τ).loc main_arg3) : FVec Ideal S4096x1024 .f32) (ix2 f k) := by
  blk_simp [iblk]
  entry_read
  pointwise
  blk_ext [idx t]

/-- The last gain's block is the gain. -/
theorem blk4 (c : Dev nD) (t : Fin cfg0.N) (k : Fin 1024) :
    (iblk m c 4 t : FVec Ideal S1x1024 .f32) (ix2 0 k) = (m ((c : Thread nD τ).loc main_arg4) : FVec Ideal S1024 .f32) (ix1 k) := by
  blk_simp [iblk]
  entry_read
  pointwise
  blk_ext [idx t]

/-- What point `t` writes at a place of its block is the layer's output at the place's row and column. -/
theorem point (c : Dev nD) (t : Fin cfg0.N) (r : Fin 512) (j : Fin 1024) :
    (out0_5 (iblk m c 0 t) (iblk m c 1 t) (iblk m c 2 t) (iblk m c 3 t) (iblk m c 4 t) : FVec Ideal S512x1024 .f32) (ix2 r j)
      = out (fun k => (m ((c : Thread nD τ).loc main_arg0) : FVec Ideal S8x4096x1024 .f32)
            (ix3 ⟨(t.val * 512 + r.val) / 4096, by have : t.val < 64 := t.isLt; omega⟩ ⟨(t.val * 512 + r.val) % 4096, by omega⟩ k))
          (fun k => (m ((c : Thread nD τ).loc main_arg1) : FVec Ideal S1024 .f32) (ix1 k))
          (fun k f => (m ((c : Thread nD τ).loc main_arg2) : FVec Ideal S1024x4096 .f32) (ix2 k f))
          (fun f j => (m ((c : Thread nD τ).loc main_arg3) : FVec Ideal S4096x1024 .f32) (ix2 f j))
          (fun k => (m ((c : Thread nD τ).loc main_arg4) : FVec Ideal S1024 .f32) (ix1 k)) j := by
  frame_out
  refine (body_at _ _ _ _ _ _ _ _ _ _ _ (iblk m c 2 t) (iblk m c 3 t) ?_ ?_ ?_ ?_ ?_ ?_ ?_ ?_ r j).trans ?_
  iterate 8 (intro a b; pointwise)
  simp only [blk0, blk1, blk2, blk3, blk4]

open Cert.FfnRefIdeal.Read (val_main_v31) in
/-- THE RESULT ARRAY is the reference's result on the same arguments. -/
theorem final (c : Dev nD) : (dats m 0 c).arrAt 5 (cfgs 0).N = (val_main_v31 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) : FVec Ideal S32768x1024 .f32) := by
  refine (dats m 0 c).arrAt_eq_of_covers 5 _ (by decide +kernel) fun t _ y => ?_
  blk_simp
  rw [after0_5]
  idx_vars y
  refine (point m c t y0 y1).trans ?_
  refine Eq.trans (ref_at _ _ _ _ _ ⟨t.val * 512 + y0.val, by have : t.val < 64 := t.isLt; omega⟩ y1).symm ?_
  refine congrArg (val_main_v31 (F := Ideal) _ _ _ _ _) ?_
  blk_ext [idx t]

end Cert.Proof.Ffn

end
-- ==== Proof.MergePure.lean ====
/- The gated merge of the three branches on one row: what the kernel's body stores and what the reference computes are
   the same function of the row, the gain, the gate columns, the three branch rows and the weights. -/
module

public import proofs.«01_k».proof.Proof.Rows
public import proofs.«01_k».proof.Proof.Gen.MergeKernelIdeal.Skeleton
public import proofs.«01_k».proof.Proof.Gen.MergeRefIdeal.Read

@[expose] public section

set_option maxRecDepth 16384

noncomputable section

namespace Cert.Proof.Merge

open Idealize.ShloMosaic Idealize.ShloMosaic.TcCoe Idealize.SL.Sem Cert.Proof.Rows

/-- One branch's contribution to the merge: the gate's logistic times the branch row's projection. -/
def branch (x g : Fin 1024 → EReal) (w : Fin 1024 → EReal) (o : Fin 512 → EReal) (b : Fin 512 → EReal) : EReal :=
  Ideal.logistic (∑ k, rms x g k * w k) * ∑ d, o d * b d

/-- The row after the gated branches are summed, projected and added to it. -/
def out (x g : Fin 1024 → EReal) (w : Fin 3 → Fin 1024 → Fin 1024 → EReal) (o : Fin 3 → Fin 512 → EReal)
    (b : Fin 3 → Fin 512 → Fin 1024 → EReal) (wo : Fin 1024 → Fin 1024 → EReal) (j : Fin 1024) : EReal :=
  x j + ∑ e : Fin 1024, ((branch x g (fun k => w 0 k e) (o 0) (fun d => b 0 d e) + branch x g (fun k => w 1 k e) (o 1) (fun d => b 1 d e))
    + branch x g (fun k => w 2 k e) (o 2) (fun d => b 2 d e)) * wo e j

section Kernel
open Cert.MergeKernelIdeal Cert.MergeKernelIdeal.Gen

/-- The normalised block at a row and a column. -/
theorem pay3_at (X : FVec Ideal S512x1024 .f32) (G : FVec Ideal S1x1024 .f32) (r : Fin 512) (k : Fin 1024) :
    (k0_pay3 X G : FVec Ideal S512x1024 .bf16) (ix2 r k) = rms (fun k => X (ix2 r k)) (fun k => G (ix2 0 k)) k := by
  pointwise [k0_pay3, k0_pay2, rms, scale]

/-- The first branch, staged transposed. -/
theorem pay6_at (X : FVec Ideal S512x1024 .f32) (G : FVec Ideal S1x1024 .f32) (O : FVec Ideal S512x512 .bf16)
    (W : FVec Ideal S1024x1024 .bf16) (B : FVec Ideal S1x512x1024 .bf16) (r : Fin 512) (e : Fin 1024) :
    (k0_pay6 X G O W B : FVec Ideal S512x1024 .f32) (ix2 r e)
      = branch (fun k => X (ix2 r k)) (fun k => G (ix2 0 k)) (fun k => W (ix2 k e)) (fun d => O (ix2 d r)) (fun d => B (ix3 0 d e)) := by
  pointwise [k0_pay6, pay3_at, branch]

/-- WHAT THE BODY STORES, read at a row and a column. -/
theorem body_at (X : FVec Ideal S512x1024 .f32) (G : FVec Ideal S1x1024 .f32) (O0 O1 O2 : FVec Ideal S512x512 .bf16)
    (W0 W1 W2 : FVec Ideal S1024x1024 .bf16) (B0 B1 B2 : FVec Ideal S1x512x1024 .bf16) (Wo : FVec Ideal S1024x1024 .bf16)
    (W : FVec Ideal S1024x3072 .bf16) (B : FVec Ideal S3x512x1024 .bf16)
    (h0 : ∀ k e : Fin 1024, W0 (ix2 k e) = W (ix2 k ⟨e.val, by omega⟩)) (h1 : ∀ k e : Fin 1024, W1 (ix2 k e) = W (ix2 k ⟨1024 + e.val, by omega⟩))
    (h2 : ∀ k e : Fin 1024, W2 (ix2 k e) = W (ix2 k ⟨2048 + e.val, by omega⟩))
    (b0 : ∀ (d : Fin 512) (e : Fin 1024), B0 (ix3 0 d e) = B (ix3 0 d e)) (b1 : ∀ (d : Fin 512) (e : Fin 1024), B1 (ix3 0 d e) = B (ix3 1 d e))
    (b2 : ∀ (d : Fin 512) (e : Fin 1024), B2 (ix3 0 d e) = B (ix3 2 d e))
    (r : Fin 512) (j : Fin 1024) :
    (k0_pay1 (k0_pay2 X) (k0_pay3 X G) (k0_pay4 O1) (k0_pay5 O2) (k0_pay6 X G O0 W0 B0) (k0_pay7 W1)
        (constant S512x1024 .f32 0x00000000#32) B1 W2 B2 Wo : FVec Ideal S512x1024 .f32) (ix2 r j)
      = out (fun k => X (ix2 r k)) (fun k => G (ix2 0 k)) (fun n k e => W (ix2 k ⟨n.val * 1024 + e.val, by omega⟩))
          ![fun d => O0 (ix2 d r), fun d => O1 (ix2 r d), fun d => O2 (ix2 r d)] (fun n d e => B (ix3 n d e)) (fun e j => Wo (ix2 e j)) j := by
  pointwise [k0_pay1, k0_pay2, k0_pay4, k0_pay5, k0_pay7, pay6_at, pay3_at, h0, h1, h2, b0, b1, b2, out, branch]

end Kernel

section Reference
open Cert.MergeRefIdeal Cert.MergeRefIdeal.Gen Cert.MergeRefIdeal.Read

/-- WHAT THE REFERENCE COMPUTES, read at a row and a column. -/
theorem ref_at (x0 : FVec Ideal S8x4096x1024 .f32) (x1 : FVec Ideal S1024 .f32) (x2 : FVec Ideal S1024x6936 .f32)
    (x3 x4 x5 : FVec Ideal S8x4096x512 .f32) (x6 : FVec Ideal S3x512x1024 .f32) (x7 : FVec Ideal S1024x1024 .f32)
    (r : Fin 32768) (j : Fin 1024) :
    (val_main_v46 (F := Ideal) x0 x1 x2 x3 x4 x5 x6 x7 : FVec Ideal S32768x1024 .f32) (ix2 r j)
      = out (fun k => x0 (ix3 ⟨r.val / 4096, by omega⟩ ⟨r.val % 4096, by omega⟩ k)) (fun k => x1 (ix1 k))
          (fun n k e => x2 (ix2 k ⟨3864 + (n.val * 1024 + e.val), by omega⟩))
          ![fun d => x3 (ix3 ⟨r.val / 4096, by omega⟩ ⟨r.val % 4096, by omega⟩ d),
            fun d => x4 (ix3 ⟨r.val / 4096, by omega⟩ ⟨r.val % 4096, by omega⟩ d),
            fun d => x5 (ix3 ⟨r.val / 4096, by omega⟩ ⟨r.val % 4096, by omega⟩ d)]
          (fun n d e => x6 (ix3 n d e)) (fun e j => x7 (ix2 e j)) j := by
  pointwise [val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29, val_main_v28,
    val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_3, val_main_cst_4, out, branch, rms, scale, Ideal.logistic]
  simp [Fin.sum_univ_three, fun i => mul_comm (x6 i)]

end Reference

end Cert.Proof.Merge

end
-- ==== Proof.MergeValue.lean ====
/- The array the merge kernel leaves is the reference's result. -/
module

public import proofs.«01_k».proof.Proof.MergePure
public import proofs.«01_k».proof.Proof.Gen.MergeKernelIdeal.Value
public import Idealize.ShloMosaic.Lib.Pipeline.ValueKit
public import Idealize.ShloMosaic.Lib.Claim

@[expose] public section

set_option maxRecDepth 16384

noncomputable section

namespace Cert.Proof.Merge

open Idealize.ShloMosaic Idealize.ShloMosaic.TcCoe Idealize.SL.Sem
open Idealize.ShloMosaic.Pipeline (Dat)
open Cert.MergeKernelIdeal Cert.MergeKernelIdeal.Gen

variable (m : (ℓ : Loc nD τ sig) → Buf (Elt Ideal) ℓ)

/-- The windows' block indices: rows move with the grid point (the first branch's, staged transposed, along its columns),
    everything else is whole. -/
theorem idx : ∀ t : Fin cfg0.N, win0_0.index t = ![t.val, 0] ∧ win0_1.index t = ![0, 0] ∧ win0_2.index t = ![0, 0]
    ∧ win0_3.index t = ![0, t.val] ∧ win0_4.index t = ![t.val, 0] ∧ win0_5.index t = ![t.val, 0] ∧ win0_6.index t = ![0, 0, 0]
    ∧ win0_7.index t = ![0, 0] ∧ win0_8.index t = ![t.val, 0] :=
  (by decide +kernel : ∀ t : Fin grid0.N, _)

/-- The block of rows at point `t`: row `r` of the block is row `512 t + r` of the flattened input. -/
theorem blk0 (c : Dev nD) (t : Fin cfg0.N) (r : Fin 512) (k : Fin 1024) :
    (iblk m c 0 t : FVec Ideal S512x1024 .f32) (ix2 r k) = (m ((c : Thread nD τ).loc main_arg0) : FVec Ideal S8x4096x1024 .f32)
      (ix3 ⟨(t.val * 512 + r.val) / 4096, by have : t.val < 64 := t.isLt; omega⟩ ⟨(t.val * 512 + r.val) % 4096, by omega⟩ k) := by
  blk_simp [iblk]
  entry_read
  pointwise
  blk_ext [idx t]

/-- The gain's block is the gain. -/
theorem blk1 (c : Dev nD) (t : Fin cfg0.N) (k : Fin 1024) :
    (iblk m c 1 t : FVec Ideal S1x1024 .f32) (ix2 0 k) = (m ((c : Thread nD τ).loc main_arg1) : FVec Ideal S1024 .f32) (ix1 k) := by
  blk_simp [iblk]
  entry_read
  pointwise
  blk_ext [idx t]

/-- The gate columns of the projection are staged whole. -/
theorem blk2 (c : Dev nD) (t : Fin cfg0.N) (k : Fin 1024) (f : Fin 3072) :
    (iblk m c 2 t : FVec Ideal S1024x3072 .bf16) (ix2 k f) = (m ((c : Thread nD τ).loc main_arg2) : FVec Ideal S1024x6936 .f32) (ix2 k ⟨3864 + f.val, by omega⟩) := by
  blk_simp [iblk]
  entry_read
  pointwise
  blk_ext [idx t]

/-- The first branch's block is transposed: column `r` of the block is row `512 t + r` of the flattened branch. -/
theorem blk3 (c : Dev nD) (t : Fin cfg0.N) (d r : Fin 512) :
    (iblk m c 3 t : FVec Ideal S512x512 .bf16) (ix2 d r) = (m ((c : Thread nD τ).loc main_arg3) : FVec Ideal S8x4096x512 .f32)
      (ix3 ⟨(t.val * 512 + r.val) / 4096, by have : t.val < 64 := t.isLt; omega⟩ ⟨(t.val * 512 + r.val) % 4096, by omega⟩ d) := by
  blk_simp [iblk]
  entry_read
  pointwise
  blk_ext [idx t]

/-- The second branch's rows at point `t`. -/
theorem blk4 (c : Dev nD) (t : Fin cfg0.N) (r d : Fin 512) :
    (iblk m c 4 t : FVec Ideal S512x512 .bf16) (ix2 r d) = (m ((c : Thread nD τ).loc main_arg4) : FVec Ideal S8x4096x512 .f32)
      (ix3 ⟨(t.val * 512 + r.val) / 4096, by have : t.val < 64 := t.isLt; omega⟩ ⟨(t.val * 512 + r.val) % 4096, by omega⟩ d) := by
  blk_simp [iblk]
  entry_read
  pointwise
  blk_ext [idx t]

/-- The third branch's rows at point `t`. -/
theorem blk5 (c : Dev nD) (t : Fin cfg0.N) (r d : Fin 512) :
    (iblk m c 5 t : FVec Ideal S512x512 .bf16) (ix2 r d) = (m ((c : Thread nD τ).loc main_arg5) : FVec Ideal S8x4096x512 .f32)
      (ix3 ⟨(t.val * 512 + r.val) / 4096, by have : t.val < 64 := t.isLt; omega⟩ ⟨(t.val * 512 + r.val) % 4096, by omega⟩ d) := by
  blk_simp [iblk]
  entry_read
  pointwise
  blk_ext [idx t]

/-- The branches' weights are staged whole. -/
theorem blk6 (c : Dev nD) (t : Fin cfg0.N) (n : Fin 3) (d : Fin 512) (e : Fin 1024) :
    (iblk m c 6 t : FVec Ideal S3x512x1024 .bf16) (ix3 n d e) = (m ((c : Thread nD τ).loc main_arg6) : FVec Ideal S3x512x1024 .f32) (ix3 n d e) := by
  blk_simp [iblk]
  entry_read
  pointwise
  blk_ext [idx t]

/-- The output weights are staged whole. -/
theorem blk7 (c : Dev nD) (t : Fin cfg0.N) (e j : Fin 1024) :
    (iblk m c 7 t : FVec Ideal S1024x1024 .bf16) (ix2 e j) = (m ((c : Thread nD τ).loc main_arg7) : FVec Ideal S1024x1024 .f32) (ix2 e j) := by
  blk_simp [iblk]
  entry_read
  pointwise
  blk_ext [idx t]

/-- What point `t` writes at a place of its block is the merged row's entry there. -/
theorem point (c : Dev nD) (t : Fin cfg0.N) (r : Fin 512) (j : Fin 1024) :
    (out0_8 (iblk m c 0 t) (iblk m c 1 t) (iblk m c 2 t) (iblk m c 3 t) (iblk m c 4 t) (iblk m c 5 t) (iblk m c 6 t) (iblk m c 7 t)
        : FVec Ideal S512x1024 .f32) (ix2 r j)
      = out (fun k => (m ((c : Thread nD τ).loc main_arg0) : FVec Ideal S8x4096x1024 .f32)
            (ix3 ⟨(t.val * 512 + r.val) / 4096, by have : t.val < 64 := t.isLt; omega⟩ ⟨(t.val * 512 + r.val) % 4096, by omega⟩ k))
          (fun k => (m ((c : Thread nD τ).loc main_arg1) : FVec Ideal S1024 .f32) (ix1 k))
          (fun n k e => (m ((c : Thread nD τ).loc main_arg2) : FVec Ideal S1024x6936 .f32) (ix2 k ⟨3864 + (n.val * 1024 + e.val), by omega⟩))
          ![fun d => (m ((c : Thread nD τ).loc main_arg3) : FVec Ideal S8x4096x512 .f32)
              (ix3 ⟨(t.val * 512 + r.val) / 4096, by have : t.val < 64 := t.isLt; omega⟩ ⟨(t.val * 512 + r.val) % 4096, by omega⟩ d),
            fun d => (m ((c : Thread nD τ).loc main_arg4) : FVec Ideal S8x4096x512 .f32)
              (ix3 ⟨(t.val * 512 + r.val) / 4096, by have : t.val < 64 := t.isLt; omega⟩ ⟨(t.val * 512 + r.val) % 4096, by omega⟩ d),
            fun d => (m ((c : Thread nD τ).loc main_arg5) : FVec Ideal S8x4096x512 .f32)
              (ix3 ⟨(t.val * 512 + r.val) / 4096, by have : t.val < 64 := t.isLt; omega⟩ ⟨(t.val * 512 + r.val) % 4096, by omega⟩ d)]
          (fun n d e => (m ((c : Thread nD τ).loc main_arg6) : FVec Ideal S3x512x1024 .f32) (ix3 n d e))
          (fun e j => (m ((c : Thread nD τ).loc main_arg7) : FVec Ideal S1024x1024 .f32) (ix2 e j)) j := by
  frame_out
  refine (body_at _ _ _ _ _ _ _ _ _ _ _ _ (iblk m c 2 t) (iblk m c 6 t) ?_ ?_ ?_ ?_ ?_ ?_ r j).trans ?_
  iterate 6 (intro a b; pointwise)
  simp only [blk0, blk1, blk2, blk3, blk4, blk5, blk6, blk7]

open Cert.MergeRefIdeal.Read (val_main_v46) in
/-- THE RESULT ARRAY is the reference's result on the same arguments. -/
theorem final (c : Dev nD) : (dats m 0 c).arrAt 8 (cfgs 0).N = (val_main_v46 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) : FVec Ideal S32768x1024 .f32) := by
  refine (dats m 0 c).arrAt_eq_of_covers 8 _ (by decide +kernel) fun t _ y => ?_
  blk_simp
  rw [after0_8]
  idx_vars y
  refine (point m c t y0 y1).trans ?_
  refine Eq.trans (ref_at _ _ _ _ _ _ _ _ ⟨t.val * 512 + y0.val, by have : t.val < 64 := t.isLt; omega⟩ y1).symm ?_
  refine congrArg (val_main_v46 (F := Ideal) _ _ _ _ _ _ _ _) ?_
  blk_ext [idx t]

end Cert.Proof.Merge

end
-- ==== Proof.RetMath.lean ====
/- The retention recurrence over the extended reals, in which the results of the kernel and of the reference are written. -/
module

public import Idealize.ShloMosaic.PureOps.Ideal
public import Idealize.ShloMosaic.Lib.Pointwise
public import Idealize.ShloMosaic.Lib.Claim

@[expose] public section

noncomputable section

namespace Cert.Proof.RetMath

open Idealize.ShloMosaic

/-- The logarithm of head `h`'s decay. -/
def lg (h : Fin 4) : EReal :=
  Ideal.log1p (-Ideal.exp (Ideal.ofBits .f32 1060205080#32
    * (Ideal.ofBits .f32 3231711232#32 - (FloatOps.sitofp (F := Ideal) .f32 (BitVec.ofNat 32 h.val) : EReal))))

/-- The rotation's angle at position `t` and coordinate `i`. -/
def ang (t : Fin 4096) (i : Fin 32) : EReal :=
  (FloatOps.sitofp (F := Ideal) .f32 (BitVec.ofNat 32 t.val) : EReal)
    * Ideal.pow (Ideal.ofBits .f32 1176256512#32)
        (Ideal.div (-(FloatOps.sitofp (F := Ideal) .f32 (BitVec.ofNat 32 i.val) : EReal)) (Ideal.ofBits .f32 1107296256#32))

/-- The decay from key `q` to query `p` within a chunk, zero for a key after the query. -/
def decay (h : Fin 4) (p q : Fin 128) : EReal :=
  Scalar.select (IntOp.cmpi .sge (IntOp.subi (BitVec.ofNat 32 p.val) (BitVec.ofNat 32 q.val)) 0#32)
    (Ideal.exp (lg h * (FloatOps.sitofp (F := Ideal) .f32 (IntOp.maxsi (IntOp.subi (BitVec.ofNat 32 p.val) (BitVec.ofNat 32 q.val)) 0#32) : EReal)))
    (Ideal.ofBits .f32 0#32)

/-- The decay from the state before a chunk to its query `p`. -/
def xi (h : Fin 4) (p : Fin 128) : EReal :=
  Ideal.exp (lg h * (FloatOps.sitofp (F := Ideal) .f32 (IntOp.addi (BitVec.ofNat 32 p.val) 1#32) : EReal))

/-- The decay from a chunk's key `p` to the state after the chunk. -/
def zeta (h : Fin 4) (p : Fin 128) : EReal :=
  Ideal.exp (lg h * (FloatOps.sitofp (F := Ideal) .f32 (IntOp.subi 127#32 (BitVec.ofNat 32 p.val)) : EReal))

/-- The decay over a whole chunk. -/
def gchunk (h : Fin 4) : EReal := Ideal.exp (lg h * Ideal.ofBits .f32 1124073472#32)

/-- The keys' scale, one eighth. -/
def eighth : EReal := Ideal.ofBits .f32 1040187392#32

/-- The rotary embedding of a head's 64 coordinates at position `t`. -/
def rot (f : Fin 64 → EReal) (t : Fin 4096) (d : Fin 64) : EReal :=
  if hd : d.val < 32 then
    f d * Ideal.cos (ang t ⟨d.val, hd⟩) - f ⟨32 + d.val, by omega⟩ * Ideal.sin (ang t ⟨d.val, hd⟩)
  else
    f ⟨d.val - 32, by omega⟩ * Ideal.sin (ang t ⟨d.val - 32, by omega⟩) + f d * Ideal.cos (ang t ⟨d.val - 32, by omega⟩)

theorem eighth_eq : eighth = (((1 : ℝ) / 8 : ℝ) : EReal) := by
  unfold eighth
  simp [Ideal.ofBits, Ideal.ieee, -EReal.coe_mul]; norm_num

theorem eighth_pos : (0 : EReal) ≤ eighth ∧ eighth ≠ ⊤ := by
  rw [eighth_eq]
  exact ⟨EReal.coe_nonneg.mpr (by norm_num), EReal.coe_ne_top _⟩

/-- The rotation takes the scale out. -/
theorem rot_scale (f : Fin 64 → EReal) (t : Fin 4096) (d : Fin 64) : rot (fun e => f e * eighth) t d = rot f t d * eighth := by
  have e : ∀ a b c d : EReal, a * eighth * b + c * eighth * d = (a * b + c * d) * eighth := fun a b c d => by
    rw [EReal.right_distrib_of_nonneg_of_ne_top eighth_pos.1 eighth_pos.2, mul_right_comm a, mul_right_comm c]
  unfold rot
  split
  · rw [sub_eq_add_neg, sub_eq_add_neg, ← EReal.neg_mul, ← EReal.neg_mul, ← EReal.neg_mul]; exact e _ _ _ _
  · exact e _ _ _ _

/-- Position `p` of chunk `n`. -/
def pos (n : Fin 32) (p : Fin 128) : Fin 4096 := ⟨n.val * 128 + p.val, by omega⟩

/-- The chunk of a position. -/
def nof (t : Fin 4096) : Fin 32 := ⟨t.val / 128, by omega⟩

/-- A position's place in its chunk. -/
def pof (t : Fin 4096) : Fin 128 := ⟨t.val % 128, by omega⟩

theorem pos_of (t : Fin 4096) : pos (nof t) (pof t) = t := Fin.ext (Nat.div_add_mod' t.val 128)

theorem nof_pos (n : Fin 32) (p : Fin 128) : nof (pos n p) = n := Fin.ext (by simp only [nof, pos]; omega)

theorem pof_pos (n : Fin 32) (p : Fin 128) : pof (pos n p) = p := Fin.ext (by simp only [pof, pos]; omega)

variable (Z : Fin 8 → Fin 4096 → Fin 6936 → EReal) (b : Fin 8)

/-- A head's query at a position, rotated. -/
def qry (t : Fin 4096) (h : Fin 4) (d : Fin 64) : EReal := rot (fun e => Z b t ⟨1304 + (h.val * 64 + e.val), by omega⟩) t d

/-- A head's key at a position, rotated and scaled. -/
def key (t : Fin 4096) (h : Fin 4) (d : Fin 64) : EReal := rot (fun e => Z b t ⟨1560 + (h.val * 64 + e.val), by omega⟩) t d * eighth

/-- A head's value at a position. -/
def val (t : Fin 4096) (h : Fin 4) (v : Fin 128) : EReal := Z b t ⟨1816 + (h.val * 128 + v.val), by omega⟩

/-- A head's gate at a position. -/
def gate (t : Fin 4096) (h : Fin 4) (v : Fin 128) : EReal := Z b t ⟨2328 + (h.val * 128 + v.val), by omega⟩

/-- What chunk `n` adds to the state. -/
def kv (n : Fin 32) (h : Fin 4) (d : Fin 64) (v : Fin 128) : EReal :=
  ∑ p : Fin 128, key Z b (pos n p) h d * zeta h p * val Z b (pos n p) h v

/-- The state before chunk `n`. -/
def state (h : Fin 4) (d : Fin 64) (v : Fin 128) : ℕ → EReal
  | 0 => 0
  | n + 1 => gchunk h * state h d v n + if hn : n < 32 then kv Z b ⟨n, hn⟩ h d v else 0

/-- A head's output at position `p` of chunk `n`, before the normalisation. -/
def mix (n : Fin 32) (p : Fin 128) (h : Fin 4) (v : Fin 128) : EReal :=
  ∑ q : Fin 128, (∑ d : Fin 64, qry Z b (pos n p) h d * key Z b (pos n q) h d) * decay h p q * val Z b (pos n q) h v
    + ∑ d : Fin 64, qry Z b (pos n p) h d * xi h p * state Z b h d v n.val

/-- A row less its mean. -/
def dev (f : Fin 128 → EReal) (v : Fin 128) : EReal := f v - Ideal.div (∑ u : Fin 128, f u) (Ideal.ofBits .f32 0x43000000#32)

/-- A row normalised to mean zero and variance one. -/
def normed (f : Fin 128 → EReal) (v : Fin 128) : EReal :=
  dev f v * Ideal.rsqrt (Ideal.div (∑ u : Fin 128, dev f u * dev f u) (Ideal.ofBits .f32 0x43000000#32) + Ideal.ofBits .f32 0x358637BD#32)

/-- The retention branch's result at position `p` of chunk `n`. -/
def result (G : Fin 512 → EReal) (n : Fin 32) (p : Fin 128) (h : Fin 4) (v : Fin 128) : EReal :=
  gate Z b (pos n p) h v * Ideal.logistic (gate Z b (pos n p) h v)
    * (normed (mix Z b n p h) v * G ⟨h.val * 128 + v.val, by omega⟩)

/-- The head a lane of a halves-major block belongs to. -/
def head (L : Fin 256) : Fin 4 := ⟨L.val / 32 % 4, by omega⟩

/-- The coordinate within its head a lane of a halves-major block holds. -/
def dim (L : Fin 256) : Fin 64 := ⟨L.val / 128 * 32 + L.val % 32, by omega⟩

/-- The lane of a head's coordinate. -/
def lane (h : Fin 4) (d : Fin 64) : Fin 256 := ⟨d.val / 32 * 128 + h.val * 32 + d.val % 32, by omega⟩

/-- One on the lanes of head `h`, zero on the others. -/
def mask (h : Fin 4) (L : Fin 256) : EReal := if L.val / 32 % 4 = h.val then 1 else 0

/-- A sum over all lanes of terms that vanish off head `h` is the sum over that head's coordinates. -/
theorem sum_lanes (h : Fin 4) (f : Fin 256 → EReal) (g : Fin 64 → EReal) (on : ∀ L, L.val / 32 % 4 = h.val → f L = g (dim L))
    (off : ∀ L, L.val / 32 % 4 ≠ h.val → f L = 0) : ∑ L, f L = ∑ d, g d := by
  classical
  rw [← Finset.sum_filter_add_sum_filter_not Finset.univ (fun L : Fin 256 => L.val / 32 % 4 = h.val),
    Finset.sum_eq_zero (s := Finset.univ.filter fun L : Fin 256 => ¬L.val / 32 % 4 = h.val) (fun L hL => off L (Finset.mem_filter.mp hL).2), add_zero]
  refine Finset.sum_nbij' dim (lane h) (fun _ _ => Finset.mem_univ _) (fun d _ => ?_) (fun L hL => ?_) (fun d _ => ?_) (fun L hL => ?_)
  · refine Finset.mem_filter.mpr ⟨Finset.mem_univ _, ?_⟩
    simp only [lane]; omega
  · have := (Finset.mem_filter.mp hL).2
    refine Fin.ext ?_; simp only [lane, dim]; omega
  · refine Fin.ext ?_; simp only [lane, dim]; omega
  · exact on L (Finset.mem_filter.mp hL).2

end Cert.Proof.RetMath

end
-- ==== Proof.RetBody.lean ====
/- What one grid point of the retention kernel computes, over its staged blocks and the state it is given. -/
module

public import proofs.«01_k».proof.Proof.RetMath
public import proofs.«01_k».proof.Proof.Gen.RetKernelIdeal.Value
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Ret

open Idealize.ShloMosaic Idealize.ShloMosaic.TcCoe Idealize.SL.Sem
open Idealize.ShloMosaic.Pipeline (Dat)
open Cert.Proof.RetMath (dev normed)
open Cert.RetKernelIdeal Cert.RetKernelIdeal.Gen Cert.RetKernelIdeal.Value

/-- The rotated block at sequence `r`, position `p`, lane `L`: lanes below 128 hold the first halves of the heads. -/
def rotL (X : FVec Ideal S4x128x256 .f32) (cs sn : FVec Ideal S128x128 .f32) (r : Fin 4) (p : Fin 128) (L : Fin 256) : EReal :=
  if hl : L.val < 128 then
    X (ix3 r p ⟨L.val, by omega⟩) * cs (ix2 p ⟨L.val, hl⟩) - X (ix3 r p ⟨L.val + 128, by omega⟩) * sn (ix2 p ⟨L.val, hl⟩)
  else
    X (ix3 r p ⟨L.val - 128, by omega⟩) * sn (ix2 p ⟨L.val - 128, by omega⟩)
      + X (ix3 r p ⟨L.val, by omega⟩) * cs (ix2 p ⟨L.val - 128, by omega⟩)

/-- The column of head `h`'s value coordinate `v`. -/
abbrev col (h : Fin 4) (v : Fin 128) : Fin 512 := ⟨h.val * 128 + v.val, by omega⟩

/-- The state after a chunk, at one place. -/
def stepL (gch : FVec Ideal S4 .f32) (K : FVec Ideal S4x128x256 .f32) (V : FVec Ideal S4x128x512 .f32)
    (cs sn : FVec Ideal S128x128 .f32) (zt : FVec Ideal S4x128x256 .f32) (S : FVec Ideal S4x4x256x128 .f32)
    (r h : Fin 4) (L : Fin 256) (v : Fin 128) : EReal :=
  gch (ix1 h) * S (ix4 r h L v) + ∑ p : Fin 128, rotL K cs sn r p L * zt (ix3 h p L) * V (ix3 r p (col h v))

/-- What the retention reads before its normalisation, at one place: the chunk's own part and the state's part. -/
def preL (Q K : FVec Ideal S4x128x256 .f32) (V : FVec Ideal S4x128x512 .f32) (cs sn : FVec Ideal S128x128 .f32)
    (dc : FVec Ideal S4x128x128 .f32) (hm : FVec Ideal S4x1x256 .f32) (xi : FVec Ideal S4x128x256 .f32)
    (S : FVec Ideal S4x4x256x128 .f32) (r h : Fin 4) (p v : Fin 128) : EReal :=
  (∑ q : Fin 128, (∑ L : Fin 256, rotL Q cs sn r p L * hm (ix3 h 0 L) * rotL K cs sn r q L) * dc (ix3 h p q) * V (ix3 r q (col h v)))
    + ∑ L : Fin 256, rotL Q cs sn r p L * xi (ix3 h p L) * S (ix4 r h L v)

/-- What the kernel writes at one place. -/
def outL (Q K : FVec Ideal S4x128x256 .f32) (V G : FVec Ideal S4x128x512 .f32) (cs sn : FVec Ideal S128x128 .f32)
    (dc : FVec Ideal S4x128x128 .f32) (hm : FVec Ideal S4x1x256 .f32) (xi : FVec Ideal S4x128x256 .f32)
    (gn : FVec Ideal S1x512 .f32) (S : FVec Ideal S4x4x256x128 .f32) (r h : Fin 4) (p v : Fin 128) : EReal :=
  G (ix3 r p (col h v)) * Ideal.logistic (G (ix3 r p (col h v)))
    * (normed (preL Q K V cs sn dc hm xi S r h p) v * gn (ix2 0 (col h v)))

/-- A tile's row sums over 128. -/
def meanV (o : FVec Ideal S128x128 .f32) : FVec Ideal S128x1 .f32 :=
  divf (shapeCast S128x1 (multiReduction .add [1] S128 o 0x00000000#32 reduces_S128x128_S128 (.inl rfl) rfl) shapeCasts_S128_S128x1)
    (broadcast S128x1 (Scalar.ofBits .f32 0x43000000#32))

/-- A tile less its row means. -/
def devV (o : FVec Ideal S128x128 .f32) : FVec Ideal S128x128 .f32 := subf o (broadcastTo S128x128 (meanV o) broadcasts_S128x1_S128x128)

/-- The kernel's normalisation and gating of a tile, as it computes it. -/
def normV (o : FVec Ideal S128x128 .f32) (gn : FVec Ideal S1x128 .f32) (gate : FVec Ideal S1x128x128 .f32) : FVec Ideal S1x128x128 .bf16 :=
  shapeCast S1x128x128 (truncf .bf16 (mulf
    (mulf (shapeCast S128x128 gate shapeCasts_S1x128x128_S128x128) (logistic (shapeCast S128x128 gate shapeCasts_S1x128x128_S128x128)))
    (mulf (mulf (devV o) (broadcastTo S128x128 (rsqrt (addf (meanV (mulf (devV o) (devV o))) (broadcast S128x1 (Scalar.ofBits .f32 0x358637BD#32))))
        broadcasts_S128x1_S128x128))
      (broadcastTo S128x128 (shapeCast S1x128 gn shapeCasts_S1x128_S1x128) broadcasts_S1x128_S128x128))) bitsLt_bf16_f32) shapeCasts_S128x128_S1x128x128

theorem meanV_at (o : FVec Ideal S128x128 .f32) (p : Fin 128) (z : Fin 1) :
    meanV o (ix2 p z) = Ideal.div (∑ u : Fin 128, o (ix2 p u)) (Ideal.ofBits .f32 0x43000000#32) := by
  pointwise [meanV]

theorem devV_at (o : FVec Ideal S128x128 .f32) (p v : Fin 128) : devV o (ix2 p v) = dev (fun u => o (ix2 p u)) v := by
  pointwise [devV, meanV_at, dev]

/-- That tile at one place. -/
theorem normV_at (o : FVec Ideal S128x128 .f32) (gn : FVec Ideal S1x128 .f32) (gate : FVec Ideal S1x128x128 .f32) (z : Fin 1) (p v : Fin 128) :
    normV o gn gate (ix3 z p v) = gate (ix3 0 p v) * Ideal.logistic (gate (ix3 0 p v)) * (normed (fun u => o (ix2 p u)) v * gn (ix2 0 v)) := by
  pointwise [normV, normed, meanV_at, devV_at]

/-- The gated normalised row depends on its parts only. -/
theorem gated_congr {a a' b b' : EReal} {f f' : Fin 128 → EReal} (v : Fin 128) (ha : a = a') (hb : b = b') (hf : ∀ u, f u = f' u) :
    a * Ideal.logistic a * (normed f v * b) = a' * Ideal.logistic a' * (normed f' v * b') := by
  rw [ha, hb, funext hf]

/-- The state before the first chunk. -/
def zeroS : FVec Ideal S4x4x256x128 .f32 := fun _ => 0

/-- The fill of the state's scratch is zero. -/
theorem fill_eq : k0_pay2 (F := Ideal) = zeroS := by
  funext x
  idx_vars x
  pointwise [k0_pay2, zeroS]

/-- Where the later stores cover a place, the earlier ones do not matter. -/
theorem canon_drop {Val : EltTy → Type} [∀ e, Nonempty (Val e)] {S : Shape} {e : EltTy} (L L' : List (View.Piece Val S e)) (y : S.Idx)
    (hc : ∃ p ∈ L, y ∈ p.1.set) : View.canon (L ++ L') y = View.canon L y := by
  induction L with
  | nil => obtain ⟨p, hp, _⟩ := hc; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hc
      rcases List.mem_cons.mp hq with rfl | hq'
      · exact absurd hyq hm
      · exact ih ⟨q, hq', hyq⟩

variable (m : (ℓ : Loc nD τ sig) → Buf (Elt Ideal) ℓ)

/-- The state a point starts from: zero at the first chunk of a sequence, else what the point before left. -/
def startS (n : ℕ) (S : FVec Ideal S4x4x256x128 .f32) : FVec Ideal S4x4x256x128 .f32 := if n % 32 = 0 then zeroS else S

set_option maxHeartbeats 8000000 in
/-- A point leaves the advanced state. -/
theorem st_at (c : Dev nD) (t : Fin cfg0.N) (acc : Vec Ideal S4x128x512 .bf16 × Vec Ideal S4x4x256x128 .f32) (r e : Fin 4) (L : Fin 256) (v : Fin 128) :
    (stAt0 m c t.val t.isLt acc).2 (ix4 r e L v) = stepL (iblk m c 0 t) (iblk m c 2 t) (iblk m c 3 t) (iblk m c 5 t)
      (iblk m c 6 t) (iblk m c 10 t) (startS t.val acc.2) r e L v := by
  by_cases hr : t.val % 32 = 0
  case' pos =>
    rw [stAt0_A m c t acc hr, show startS t.val acc.2 = zeroS from if_pos hr]
    dsimp only
    frame_out
    refine (canon_drop [_, _, _, _, _, _, _, _, _, _, _, _, _, _, _, _] [_] _ (View.cover_of_tiled_head _ _ _ (by rfl) _)).trans ?_
    simp (disch := decide) only [View.readCov_fill]
    rw [show (k0_pay2 (F := Ideal)) = zeroS from fill_eq]
    generalize zeroS = S
    clear hr acc
  case' neg =>
    rw [stAt0_B m c t acc hr, show startS t.val acc.2 = acc.2 from if_neg hr]
    dsimp only
    frame_out
    simp only [read_unread_whole]
    generalize acc.2 = S
    clear hr acc
  all_goals
    generalize iblk m c 0 t = B0
    generalize iblk m c 2 t = B2
    generalize iblk m c 3 t = B3
    generalize iblk m c 5 t = B5
    generalize iblk m c 6 t = B6
    generalize iblk m c 10 t = B10
    canon_tiles x hx
    all_goals
      open_payloads
      idx_vars x
      obtain rfl : L = x2 := Fin.ext hx2
      obtain rfl : v = x3 := Fin.ext hx3
      pointwise [stepL, rotL]
      blk_point [col]

set_option maxHeartbeats 8000000 in
/-- A point writes the retention's output for its rows. -/
theorem out_at (c : Dev nD) (t : Fin cfg0.N) (acc : Vec Ideal S4x128x512 .bf16 × Vec Ideal S4x4x256x128 .f32) (r e : Fin 4) (p v : Fin 128) :
    (stAt0 m c t.val t.isLt acc).1 (ix3 r p (col e v)) = outL (iblk m c 1 t) (iblk m c 2 t) (iblk m c 3 t) (iblk m c 4 t) (iblk m c 5 t)
      (iblk m c 6 t) (iblk m c 7 t) (iblk m c 8 t) (iblk m c 9 t) (iblk m c 11 t) (startS t.val acc.2) r e p v := by
  by_cases hr : t.val % 32 = 0
  case' pos =>
    rw [stAt0_A m c t acc hr, show startS t.val acc.2 = zeroS from if_pos hr]
    dsimp only
    frame_out
    simp (disch := decide) only [View.readCov_fill]
    rw [show (k0_pay2 (F := Ideal)) = zeroS from fill_eq]
    generalize zeroS = S
    clear hr acc
  case' neg =>
    rw [stAt0_B m c t acc hr, show startS t.val acc.2 = acc.2 from if_neg hr]
    dsimp only
    frame_out
    simp only [read_unread_whole]
    generalize acc.2 = S
    clear hr acc
  all_goals
    generalize iblk m c 1 t = B1
    generalize iblk m c 2 t = B2
    generalize iblk m c 3 t = B3
    generalize iblk m c 4 t = B4
    generalize iblk m c 5 t = B5
    generalize iblk m c 6 t = B6
    generalize iblk m c 7 t = B7
    generalize iblk m c 8 t = B8
    generalize iblk m c 9 t = B9
    generalize iblk m c 11 t = B11
    canon_tiles x hx
    all_goals
      open_payloads
      idx_vars x
      obtain rfl : p = x1 := Fin.ext hx1
      replace hx2 : e.val * 128 + v.val = _ := hx2
      obtain ⟨he, rfl⟩ : e.val = (e.val * 128 + v.val) / 128 ∧ v = x2 := ⟨by omega, Fin.ext (by omega)⟩
      refine (normV_at _ _ _ x0 p v).trans (gated_congr v ?_ ?_ fun u => ?_)
      · pointwise
        blk_ext [col]
      · pointwise
        blk_ext [col]
      · pointwise [preL, rotL]
        blk_point [col]

end Cert.Proof.Ret

end
-- ==== Proof.RetTables.lean ====
/- What the retention kernel's host code hands it: the projected columns in the kernel's order and its tables. -/
module

public import proofs.«01_k».proof.Proof.RetMath
public import proofs.«01_k».proof.Proof.Gen.RetKernelIdeal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proof.Ret

open Idealize.ShloMosaic Idealize.ShloMosaic.TcCoe Idealize.SL.Sem
open Idealize.ShloMosaic.Pipeline (Dat)
open Cert.Proof.RetMath
open Cert.RetKernelIdeal Cert.RetKernelIdeal.Gen Cert.RetKernelIdeal.Value

variable (m : (ℓ : Loc nD τ sig) → Buf (Elt Ideal) ℓ)

/-- The array of projected columns. -/
def zA (c : Dev nD) : FVec Ideal S8x4096x6936 .f32 := show FVec Ideal S8x4096x6936 .f32 from m (c, Proc.tc.devRef main_arg0)

/-- The projected column a lane of a halves-major query or key block holds, from the block's first projected column on. -/
def zcol (o : Nat) (ho : o ≤ 6680) (x : Fin 256) : Fin 6936 := ⟨o + (x.val / 32 % 4 * 64 + x.val / 128 * 32 + x.val % 32), by have := x.isLt; omega⟩

set_option maxHeartbeats 1000000 in
/-- The queries, halves-major. -/
theorem ent16_q (c : Dev nD) (b : Fin 8) (s : Fin 4096) (x : Fin 256) :
    (show FVec Ideal S8x4096x2048 .f32 from V m c main_v16) (ix3 b s ⟨1024 + x.val, by have := x.isLt; omega⟩) = zA m c (ix3 b s (zcol 1304 (by decide) x)) := by
  simp only [V]
  after_reads_simp
  refine Eq.trans (concatenate_apply_piece (t := S8x4096x2048) 2 _ _ _ 2 (by show 2 < 8; decide) S8x4096x256 _ rfl rfl 1024 rfl (ix3 b s x) ?_ ?_) ?_
  · intro a ha; fin_cases a <;> first | rfl | exact absurd rfl ha
  · rfl
  simp only [Matrix.cons_val]
  after_reads_simp
  pointwise [zA, zcol, eighth]

set_option maxHeartbeats 1000000 in
/-- The keys, halves-major and scaled. -/
theorem ent16_k (c : Dev nD) (b : Fin 8) (s : Fin 4096) (x : Fin 256) :
    (show FVec Ideal S8x4096x2048 .f32 from V m c main_v16) (ix3 b s ⟨1280 + x.val, by have := x.isLt; omega⟩) = zA m c (ix3 b s (zcol 1560 (by decide) x)) * eighth := by
  simp only [V]
  after_reads_simp
  refine Eq.trans (concatenate_apply_piece (t := S8x4096x2048) 2 _ _ _ 3 (by show 3 < 8; decide) S8x4096x256 _ rfl rfl 1280 rfl (ix3 b s x) ?_ ?_) ?_
  · intro a ha; fin_cases a <;> first | rfl | exact absurd rfl ha
  · rfl
  simp only [Matrix.cons_val]
  after_reads_simp
  pointwise [zA, zcol, eighth]

set_option maxHeartbeats 1000000 in
/-- The values. -/
theorem ent16_v (c : Dev nD) (b : Fin 8) (s : Fin 4096) (x : Fin 512) :
    (show FVec Ideal S8x4096x2048 .f32 from V m c main_v16) (ix3 b s ⟨x.val, by have := x.isLt; omega⟩) = zA m c (ix3 b s ⟨1816 + x.val, by have := x.isLt; omega⟩) := by
  simp only [V]
  after_reads_simp
  refine Eq.trans (concatenate_apply_piece (t := S8x4096x2048) 2 _ _ _ 0 (by show 0 < 8; decide) S8x4096x512 _ rfl rfl 0 rfl (ix3 b s x) ?_ ?_) ?_
  · intro a ha; fin_cases a <;> first | rfl | exact absurd rfl ha
  · exact Nat.zero_add _
  simp only [Matrix.cons_val]
  after_reads_simp
  pointwise [zA, zcol, eighth]

set_option maxHeartbeats 1000000 in
/-- The gates. -/
theorem ent16_g (c : Dev nD) (b : Fin 8) (s : Fin 4096) (x : Fin 512) :
    (show FVec Ideal S8x4096x2048 .f32 from V m c main_v16) (ix3 b s ⟨512 + x.val, by have := x.isLt; omega⟩) = zA m c (ix3 b s ⟨2328 + x.val, by have := x.isLt; omega⟩) := by
  simp only [V]
  after_reads_simp
  refine Eq.trans (concatenate_apply_piece (t := S8x4096x2048) 2 _ _ _ 1 (by show 1 < 8; decide) S8x4096x512 _ rfl rfl 512 rfl (ix3 b s x) ?_ ?_) ?_
  · intro a ha; fin_cases a <;> first | rfl | exact absurd rfl ha
  · rfl
  simp only [Matrix.cons_val]
  after_reads_simp
  pointwise [zA, zcol, eighth]

set_option maxHeartbeats 1000000 in
/-- The decay of a chunk. -/
theorem ent83 (c : Dev nD) (h : Fin 4) :
    ((show FVec Ideal S4 .f32 from V m c main_v83) (ix1 h) : EReal) = gchunk h := by
  simp only [V]
  after_reads_simp
  try simp only [StableHlo.TRef.ofBuf, StableHlo.TRef.toBuf, cast_eq]
  pointwise [gchunk, lg]

set_option maxHeartbeats 1000000 in
/-- The decay within a chunk. -/
theorem ent62 (c : Dev nD) (h : Fin 4) (p q : Fin 128) :
    ((show FVec Ideal S4x128x128 .f32 from V m c main_v62) (ix3 h p q) : EReal) = decay h p q := by
  simp only [V]
  after_reads_simp
  try simp only [StableHlo.TRef.ofBuf, StableHlo.TRef.toBuf, cast_eq]
  pointwise [decay, lg, id_eq]

set_option maxHeartbeats 1000000 in
/-- The cosines. -/
theorem ent32 (c : Dev nD) (p : Fin 4096) (L : Fin 128) :
    ((show FVec Ideal S4096x128 .f32 from V m c main_v32) (ix2 p L) : EReal) = Ideal.cos (ang p ⟨L.val % 32, by omega⟩) := by
  simp only [V]
  after_reads_simp
  try simp only [StableHlo.TRef.ofBuf, StableHlo.TRef.toBuf, cast_eq]
  pointwise [ang]

set_option maxHeartbeats 1000000 in
/-- The sines. -/
theorem ent36 (c : Dev nD) (p : Fin 4096) (L : Fin 128) :
    ((show FVec Ideal S4096x128 .f32 from V m c main_v36) (ix2 p L) : EReal) = Ideal.sin (ang p ⟨L.val % 32, by omega⟩) := by
  simp only [V]
  after_reads_simp
  try simp only [StableHlo.TRef.ofBuf, StableHlo.TRef.toBuf, cast_eq]
  pointwise [ang]

set_option maxHeartbeats 1000000 in
/-- The gains. -/
theorem ent105 (c : Dev nD) (j : Fin 512) :
    ((show FVec Ideal S1x512 .f32 from V m c main_v105) (ix2 0 j) : EReal) = (show FVec Ideal S512 .f32 from m (c, Proc.tc.devRef main_arg1)) (ix1 j) := by
  simp only [V]
  after_reads_simp
  try simp only [StableHlo.TRef.ofBuf, StableHlo.TRef.toBuf, cast_eq]
  pointwise

/-- The comparison of a lane's head with head `h`. -/
def bit (h : Fin 4) (L : Fin 256) : BitVec 1 := if L.val / 32 % 4 = h.val then 1#1 else 0#1

theorem bit_mask (h : Fin 4) (L : Fin 256) : (FloatOps.uitofp (F := Ideal) .f32 (bit h L) : EReal) = mask h L := by
  unfold bit mask
  split <;> simp [FloatOps.uitofp]

set_option maxHeartbeats 1000000 in
/-- The heads' masks. -/
theorem ent94 (c : Dev nD) (h : Fin 4) (L : Fin 256) :
    ((show FVec Ideal S4x1x256 .f32 from V m c main_v94) (ix3 h 0 L) : EReal) = mask h L := by
  simp only [V]
  after_reads_simp
  try simp only [StableHlo.TRef.ofBuf, StableHlo.TRef.toBuf, cast_eq]
  pointwise
  rw [← bit_mask]
  refine congrArg _ ?_
  revert h L
  decide +kernel

set_option maxHeartbeats 1000000 in
/-- The decay from the state, on each head's lanes. -/
theorem ent99 (c : Dev nD) (h : Fin 4) (p : Fin 128) (L : Fin 256) :
    ((show FVec Ideal S4x128x256 .f32 from V m c main_v99) (ix3 h p L) : EReal) = xi h p * mask h L := by
  simp only [V]
  after_reads_simp
  try simp only [StableHlo.TRef.ofBuf, StableHlo.TRef.toBuf, cast_eq]
  pointwise [xi, lg]
  rw [← bit_mask]
  refine congrArg (_ * FloatOps.uitofp (F := Ideal) .f32 ·) ?_
  clear p
  revert h L
  decide +kernel

set_option maxHeartbeats 1000000 in
/-- The decay into the state, on each head's lanes. -/
theorem ent104 (c : Dev nD) (h : Fin 4) (p : Fin 128) (L : Fin 256) :
    ((show FVec Ideal S4x128x256 .f32 from V m c main_v104) (ix3 h p L) : EReal) = zeta h p * mask h L := by
  simp only [V]
  after_reads_simp
  try simp only [StableHlo.TRef.ofBuf, StableHlo.TRef.toBuf, cast_eq]
  pointwise [zeta, lg]
  rw [← bit_mask]
  refine congrArg (_ * FloatOps.uitofp (F := Ideal) .f32 ·) ?_
  clear p
  revert h L
  decide +kernel

end Cert.Proof.Ret

end
-- ==== Proof.RetBlk.lean ====
/- The blocks the retention kernel stages at a grid point, of the projected columns and of the tables. -/
module

public import proofs.«01_k».proof.Proof.RetTables
public import proofs.«01_k».proof.Proof.Gen.RetKernelIdeal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proof.Ret

open Idealize.ShloMosaic Idealize.ShloMosaic.TcCoe Idealize.SL.Sem
open Idealize.ShloMosaic.Pipeline (Dat)
open Cert.Proof.RetMath
open Cert.RetKernelIdeal Cert.RetKernelIdeal.Gen Cert.RetKernelIdeal.Value

variable (m : (ℓ : Loc nD τ sig) → Buf (Elt Ideal) ℓ)

/-- The block each grid point takes of every array. -/
theorem idx : ∀ t : Fin cfg0.N, win0_0.index t = ![0] ∧ win0_1.index t = ![t.val / 32, t.val % 32, 4] ∧ win0_2.index t = ![t.val / 32, t.val % 32, 5]
    ∧ win0_3.index t = ![t.val / 32, t.val % 32, 0] ∧ win0_4.index t = ![t.val / 32, t.val % 32, 1]
    ∧ win0_5.index t = ![t.val % 32, 0] ∧ win0_6.index t = ![t.val % 32, 0] ∧ win0_7.index t = ![0, 0, 0] ∧ win0_8.index t = ![0, 0, 0]
    ∧ win0_9.index t = ![0, 0, 0] ∧ win0_10.index t = ![0, 0, 0] ∧ win0_11.index t = ![0, 0] ∧ win0_12.index t = ![t.val / 32, t.val % 32, 0] :=
  (by decide +kernel : ∀ t : Fin grid0.N, _)

/-- The projected columns by sequence, position and column. -/
def Zc (c : Dev nD) (b : Fin 8) (t : Fin 4096) (j : Fin 6936) : EReal := zA m c (ix3 b t j)

/-- The gains by column. -/
def Gc (c : Dev nD) (j : Fin 512) : EReal := (show FVec Ideal S512 .f32 from m (c, Proc.tc.devRef main_arg1)) (ix1 j)

/-- The sequence a grid point's block row `r` is of. -/
def seq (t : Fin cfg0.N) (r : Fin 4) : Fin 8 := ⟨t.val / 32 * 4 + r.val, by have : t.val < 64 := t.isLt; omega⟩

/-- The chunk a grid point is at. -/
def chunk (t : Fin cfg0.N) : Fin 32 := ⟨t.val % 32, by omega⟩

/-- The chunk decay's block. -/
theorem blk0 (c : Dev nD) (t : Fin cfg0.N) (h : Fin 4) :
    ((show FVec Ideal S4 .f32 from iblk m c 0 t) (ix1 h) : EReal) = gchunk h := by
  blk_simp [iblk]
  refine Eq.trans ?_ (ent83 m c h)
  blk_ext [idx t]
  all_goals rfl

/-- The queries' block. -/
theorem blk1 (c : Dev nD) (t : Fin cfg0.N) (r : Fin 4) (p : Fin 128) (L : Fin 256) :
    ((show FVec Ideal S4x128x256 .f32 from iblk m c 1 t) (ix3 r p L) : EReal) = Zc m c (seq t r) (pos (chunk t) p) (zcol 1304 (by decide) L) := by
  blk_simp [iblk]
  refine Eq.trans ?_ (ent16_q m c (seq t r) (pos (chunk t) p) L)
  blk_ext [idx t]
  all_goals rfl

/-- The keys' block. -/
theorem blk2 (c : Dev nD) (t : Fin cfg0.N) (r : Fin 4) (p : Fin 128) (L : Fin 256) :
    ((show FVec Ideal S4x128x256 .f32 from iblk m c 2 t) (ix3 r p L) : EReal) = Zc m c (seq t r) (pos (chunk t) p) (zcol 1560 (by decide) L) * eighth := by
  blk_simp [iblk]
  refine Eq.trans ?_ (ent16_k m c (seq t r) (pos (chunk t) p) L)
  blk_ext [idx t]
  all_goals rfl

/-- The values' block. -/
theorem blk3 (c : Dev nD) (t : Fin cfg0.N) (r : Fin 4) (p : Fin 128) (j : Fin 512) :
    ((show FVec Ideal S4x128x512 .f32 from iblk m c 3 t) (ix3 r p j) : EReal) = Zc m c (seq t r) (pos (chunk t) p) ⟨1816 + j.val, by omega⟩ := by
  blk_simp [iblk]
  refine Eq.trans ?_ (ent16_v m c (seq t r) (pos (chunk t) p) j)
  blk_ext [idx t]
  all_goals rfl

/-- The gates' block. -/
theorem blk4 (c : Dev nD) (t : Fin cfg0.N) (r : Fin 4) (p : Fin 128) (j : Fin 512) :
    ((show FVec Ideal S4x128x512 .f32 from iblk m c 4 t) (ix3 r p j) : EReal) = Zc m c (seq t r) (pos (chunk t) p) ⟨2328 + j.val, by omega⟩ := by
  blk_simp [iblk]
  refine Eq.trans ?_ (ent16_g m c (seq t r) (pos (chunk t) p) j)
  blk_ext [idx t]
  all_goals rfl

/-- The cosines' block. -/
theorem blk5 (c : Dev nD) (t : Fin cfg0.N) (p L : Fin 128) :
    ((show FVec Ideal S128x128 .f32 from iblk m c 5 t) (ix2 p L) : EReal) = Ideal.cos (ang (pos (chunk t) p) ⟨L.val % 32, by omega⟩) := by
  blk_simp [iblk]
  refine Eq.trans ?_ (ent32 m c (pos (chunk t) p) L)
  blk_ext [idx t]
  all_goals rfl

/-- The sines' block. -/
theorem blk6 (c : Dev nD) (t : Fin cfg0.N) (p L : Fin 128) :
    ((show FVec Ideal S128x128 .f32 from iblk m c 6 t) (ix2 p L) : EReal) = Ideal.sin (ang (pos (chunk t) p) ⟨L.val % 32, by omega⟩) := by
  blk_simp [iblk]
  refine Eq.trans ?_ (ent36 m c (pos (chunk t) p) L)
  blk_ext [idx t]
  all_goals rfl

/-- The decays' block. -/
theorem blk7 (c : Dev nD) (t : Fin cfg0.N) (h : Fin 4) (p q : Fin 128) :
    ((show FVec Ideal S4x128x128 .f32 from iblk m c 7 t) (ix3 h p q) : EReal) = decay h p q := by
  blk_simp [iblk]
  refine Eq.trans ?_ (ent62 m c h p q)
  blk_ext [idx t]
  all_goals rfl

/-- The masks' block. -/
theorem blk8 (c : Dev nD) (t : Fin cfg0.N) (h : Fin 4) (L : Fin 256) :
    ((show FVec Ideal S4x1x256 .f32 from iblk m c 8 t) (ix3 h 0 L) : EReal) = mask h L := by
  blk_simp [iblk]
  refine Eq.trans ?_ (ent94 m c h L)
  blk_ext [idx t]
  all_goals rfl

/-- The block of decays from the state. -/
theorem blk9 (c : Dev nD) (t : Fin cfg0.N) (h : Fin 4) (p : Fin 128) (L : Fin 256) :
    ((show FVec Ideal S4x128x256 .f32 from iblk m c 9 t) (ix3 h p L) : EReal) = xi h p * mask h L := by
  blk_simp [iblk]
  refine Eq.trans ?_ (ent99 m c h p L)
  blk_ext [idx t]
  all_goals rfl

/-- The block of decays into the state. -/
theorem blk10 (c : Dev nD) (t : Fin cfg0.N) (h : Fin 4) (p : Fin 128) (L : Fin 256) :
    ((show FVec Ideal S4x128x256 .f32 from iblk m c 10 t) (ix3 h p L) : EReal) = zeta h p * mask h L := by
  blk_simp [iblk]
  refine Eq.trans ?_ (ent104 m c h p L)
  blk_ext [idx t]
  all_goals rfl

/-- The gains' block. -/
theorem blk11 (c : Dev nD) (t : Fin cfg0.N) (j : Fin 512) :
    ((show FVec Ideal S1x512 .f32 from iblk m c 11 t) (ix2 0 j) : EReal) = Gc m c j := by
  blk_simp [iblk]
  refine Eq.trans ?_ (ent105 m c j)
  blk_ext [idx t]
  all_goals rfl

end Cert.Proof.Ret

end
-- ==== Proof.RetValue.lean ====
/- The retention kernel's result: the states its grid points carry, and what it writes, as the recurrence's own values. -/
module

public import proofs.«01_k».proof.Proof.RetBody
public import proofs.«01_k».proof.Proof.RetBlk
public import Idealize.ShloMosaic.Lib.Claim

@[expose] public section

set_option maxRecDepth 16384

noncomputable section

namespace Cert.Proof.Ret

open Idealize.ShloMosaic Idealize.ShloMosaic.TcCoe Idealize.SL.Sem
open Idealize.ShloMosaic.Pipeline (Dat)
open Cert.Proof.RetMath
open Cert.RetKernelIdeal Cert.RetKernelIdeal.Gen Cert.RetKernelIdeal.Value

/-- The halves-major rotation of a block is the head-by-head rotation, lane by lane. -/
theorem rotL_lane (X : FVec Ideal S4x128x256 .f32) (cs sn : FVec Ideal S128x128 .f32) (f : Fin 4 → Fin 64 → EReal) (t : Fin 4096)
    (r : Fin 4) (p : Fin 128) (hX : ∀ L, X (ix3 r p L) = f (head L) (dim L))
    (hc : ∀ l : Fin 128, cs (ix2 p l) = Ideal.cos (ang t ⟨l.val % 32, by omega⟩))
    (hs : ∀ l : Fin 128, sn (ix2 p l) = Ideal.sin (ang t ⟨l.val % 32, by omega⟩)) (L : Fin 256) :
    rotL X cs sn r p L = rot (f (head L)) t (dim L) := by
  unfold rotL rot
  have hL := L.isLt
  by_cases hl : L.val < 128
  · rw [dif_pos hl, dif_pos (by simp only [dim]; omega), hX, hX, hc, hs]
    have e1 : head ⟨L.val + 128, by omega⟩ = head L := Fin.ext (by simp only [head]; omega)
    have e2 : dim ⟨L.val + 128, by omega⟩ = ⟨32 + (dim L).val, by simp only [dim]; omega⟩ := Fin.ext (by simp only [dim]; omega)
    have e3 : (⟨L.val % 32, by omega⟩ : Fin 32) = ⟨(dim L).val, by simp only [dim]; omega⟩ := Fin.ext (by simp only [dim]; omega)
    rw [e1, e2]
    simp only [e3]
  · rw [dif_neg hl, dif_neg (by simp only [dim]; omega), hX, hX, hc, hs]
    have e1 : head ⟨L.val - 128, by omega⟩ = head L := Fin.ext (by simp only [head]; omega)
    have e2 : dim ⟨L.val - 128, by omega⟩ = ⟨(dim L).val - 32, by simp only [dim]; omega⟩ := Fin.ext (by simp only [dim]; omega)
    have e3 : (⟨(L.val - 128) % 32, by omega⟩ : Fin 32) = ⟨(dim L).val - 32, by simp only [dim]; omega⟩ := Fin.ext (by simp only [dim]; omega)
    rw [e1, e2]
    simp only [e3]

variable (m : (ℓ : Loc nD τ sig) → Buf (Elt Ideal) ℓ)

/-- The kernel's rotated queries are the recurrence's. -/
theorem q_lane (c : Dev nD) (t : Fin cfg0.N) (r : Fin 4) (p : Fin 128) (L : Fin 256) :
    rotL (iblk m c 1 t) (iblk m c 5 t) (iblk m c 6 t) r p L = qry (Zc m c) (seq t r) (pos (chunk t) p) (head L) (dim L) :=
  rotL_lane _ _ _ (fun h e => Zc m c (seq t r) (pos (chunk t) p) ⟨1304 + (h.val * 64 + e.val), by omega⟩) _ r p
    (fun L => (blk1 m c t r p L).trans (congrArg (Zc m c (seq t r) (pos (chunk t) p)) (Fin.ext (by simp only [zcol, head, dim]; omega))))
    (blk5 m c t p) (blk6 m c t p) L

/-- The kernel's rotated keys are the recurrence's. -/
theorem k_lane (c : Dev nD) (t : Fin cfg0.N) (r : Fin 4) (p : Fin 128) (L : Fin 256) :
    rotL (iblk m c 2 t) (iblk m c 5 t) (iblk m c 6 t) r p L = key (Zc m c) (seq t r) (pos (chunk t) p) (head L) (dim L) :=
  (rotL_lane _ _ _ (fun h e => Zc m c (seq t r) (pos (chunk t) p) ⟨1560 + (h.val * 64 + e.val), by omega⟩ * eighth) _ r p
    (fun L => (blk2 m c t r p L).trans
      (congrArg (fun j => Zc m c (seq t r) (pos (chunk t) p) j * eighth) (Fin.ext (by simp only [zcol, head, dim]; omega))))
    (blk5 m c t p) (blk6 m c t p) L).trans (rot_scale _ _ _)

/-- The lanes of a head carry its mask's one. -/
theorem on_head {e : Fin 4} {L : Fin 256} (h : L.val / 32 % 4 = e.val) : head L = e ∧ mask e L = 1 :=
  ⟨Fin.ext h, if_pos h⟩

/-- A point advances the state of a head by the chunk it is at. -/
theorem step_lane (c : Dev nD) (t : Fin cfg0.N) (S : FVec Ideal S4x4x256x128 .f32) (r e : Fin 4) (L : Fin 256) (v : Fin 128)
    (h : L.val / 32 % 4 = e.val) :
    stepL (iblk m c 0 t) (iblk m c 2 t) (iblk m c 3 t) (iblk m c 5 t) (iblk m c 6 t) (iblk m c 10 t) S r e L v
      = gchunk e * S (ix4 r e L v) + kv (Zc m c) (seq t r) (chunk t) e (dim L) v := by
  obtain ⟨h1, h2⟩ := on_head h
  unfold stepL kv
  refine congrArg₂ (· + ·) (congrArg (· * _) (blk0 m c t e)) (Finset.sum_congr rfl fun p _ => ?_)
  refine congrArg₂ (· * ·) (congrArg₂ (· * ·) ((k_lane m c t r p L).trans (by rw [h1])) ?_) (blk3 m c t r p (col e v))
  exact (blk10 m c t e p L).trans (by rw [h2, mul_one])

/-- What a point reads before its normalisation is the recurrence's, where the state it starts from is. -/
theorem mix_lane (c : Dev nD) (t : Fin cfg0.N) (S : FVec Ideal S4x4x256x128 .f32) (r e : Fin 4) (p v : Fin 128)
    (hS : ∀ L, L.val / 32 % 4 = e.val → S (ix4 r e L v) = state (Zc m c) (seq t r) e (dim L) v (chunk t).val) :
    preL (iblk m c 1 t) (iblk m c 2 t) (iblk m c 3 t) (iblk m c 5 t) (iblk m c 6 t) (iblk m c 7 t) (iblk m c 8 t) (iblk m c 9 t) S r e p v
      = mix (Zc m c) (seq t r) (chunk t) p e v := by
  unfold preL mix
  refine congrArg₂ (· + ·) (Finset.sum_congr rfl fun q _ => ?_) (sum_lanes e _ _ (fun L h => ?_) fun L h => ?_)
  · refine congrArg₂ (· * ·) (congrArg₂ (· * ·) (sum_lanes e _ _ (fun L h => ?_) fun L h => ?_) (blk7 m c t e p q)) (blk3 m c t r q (col e v))
    · obtain ⟨h1, h2⟩ := on_head h
      refine congrArg₂ (· * ·) ((congrArg₂ (· * ·) (q_lane m c t r p L) ((blk8 m c t e L).trans h2)).trans ?_) ((k_lane m c t r q L).trans (by rw [h1]))
      rw [mul_one, h1]
    · refine (congrArg (· * _) ((congrArg (_ * ·) ((blk8 m c t e L).trans (if_neg h))).trans (mul_zero _))).trans (zero_mul _)
  · obtain ⟨h1, h2⟩ := on_head h
    refine congrArg₂ (· * ·) (congrArg₂ (· * ·) ((q_lane m c t r p L).trans (by rw [h1])) ?_) (hS L h)
    exact (blk9 m c t e p L).trans (by rw [h2, mul_one])
  · have h0 : mask e L = 0 := if_neg h
    refine (congrArg (· * _) ((congrArg (_ * ·) ((blk9 m c t e p L).trans (by rw [h0, mul_zero]))).trans (mul_zero _))).trans (zero_mul _)

/-- A point that holds `acc` starts from the recurrence's states. -/
def Starts (c : Dev nD) (n : ℕ) (hn : n < cfg0.N) (acc : Vec Ideal S4x128x512 .bf16 × Vec Ideal S4x4x256x128 .f32) : Prop :=
  ∀ (r e : Fin 4) (L : Fin 256) (v : Fin 128), L.val / 32 % 4 = e.val →
    startS n acc.2 (ix4 r e L v) = state (Zc m c) (seq ⟨n, hn⟩ r) e (dim L) v (n % 32)

/-- A point that starts from the recurrence's states leaves the next ones. -/
theorem leaves (c : Dev nD) (n : ℕ) (hn : n < cfg0.N) (acc : Vec Ideal S4x128x512 .bf16 × Vec Ideal S4x4x256x128 .f32)
    (h : Starts m c n hn acc) (r e : Fin 4) (L : Fin 256) (v : Fin 128) (hL : L.val / 32 % 4 = e.val) :
    (stAt0 m c n hn acc).2 (ix4 r e L v) = state (Zc m c) (seq ⟨n, hn⟩ r) e (dim L) v (n % 32 + 1) := by
  refine (st_at m c ⟨n, hn⟩ acc r e L v).trans ((step_lane m c ⟨n, hn⟩ _ r e L v hL).trans ?_)
  rw [h r e L v hL, state, dif_pos (Nat.mod_lt n (by decide))]
  rfl

/-- A point at the first chunk starts from the recurrence's states: they are zero. -/
theorem starts_zero (c : Dev nD) (n : ℕ) (hn : n < cfg0.N) (acc : Vec Ideal S4x128x512 .bf16 × Vec Ideal S4x4x256x128 .f32)
    (h : n % 32 = 0) : Starts m c n hn acc := by
  intro r e L v _
  rw [startS, if_pos h, h]
  rfl

/-- Every point is a step from what holds the recurrence's states. -/
theorem steps (c : Dev nD) : ∀ (n : ℕ) (hn : n < cfg0.N), ∃ acc, outsAt0 m c n hn = stAt0 m c n hn acc ∧ Starts m c n hn acc
  | 0, hn => ⟨junk0, outsAt0_zero m c hn, starts_zero m c 0 hn _ rfl⟩
  | n + 1, hn => by
    refine ⟨_, outsAt0_succ m c n hn, ?_⟩
    by_cases h : (n + 1) % 32 = 0
    · exact starts_zero m c _ hn _ h
    · intro r e L v hL
      obtain ⟨acc, e1, h1⟩ := steps c n (Nat.lt_of_succ_lt hn)
      rw [startS, if_neg h, e1, leaves m c n _ acc h1 r e L v hL, show n % 32 + 1 = (n + 1) % 32 by omega,
        show seq ⟨n, Nat.lt_of_succ_lt hn⟩ r = seq ⟨n + 1, hn⟩ r from Fin.ext (by simp only [seq]; omega)]

/-- What a point writes is the recurrence's result. -/
theorem point (c : Dev nD) (t : Fin cfg0.N) (r e : Fin 4) (p v : Fin 128) :
    (outsAt0 m c t.val t.isLt).1 (ix3 r p (col e v)) = result (Zc m c) (seq t r) (Gc m c) (chunk t) p e v := by
  obtain ⟨acc, e1, h1⟩ := steps m c t.val t.isLt
  rw [e1]
  refine (out_at m c t acc r e p v).trans ?_
  unfold outL result
  have hg : (iblk m c 4 t : FVec Ideal S4x128x512 .f32) (ix3 r p (col e v)) = gate (Zc m c) (seq t r) (pos (chunk t) p) e v :=
    blk4 m c t r p (col e v)
  refine congrArg₂ (· * ·) (congrArg (fun x => x * Ideal.logistic x) hg) (congrArg₂ (fun (f : Fin 128 → EReal) x => normed f v * x) ?_ (blk11 m c t (col e v)))
  funext u
  exact mix_lane m c t _ r e p u fun L hL => h1 r e L u hL

/-- THE RESULT ARRAY is any array that holds the recurrence's results. -/
theorem final (c : Dev nD) (R : FVec Ideal S8x4096x512 .bf16)
    (hR : ∀ (b : Fin 8) (s : Fin 4096) (e : Fin 4) (v : Fin 128), R (ix3 b s (col e v)) = result (Zc m c) b (Gc m c) (nof s) (pof s) e v) :
    (dats m 0 c).arrAt 12 (cfgs 0).N = R := by
  refine (dats m 0 c).arrAt_eq_of_covers 12 _ (by decide +kernel) fun t _ y => ?_
  blk_simp
  rw [after0_12]
  idx_vars y
  have hc : y2 = col ⟨y2.val / 128, by omega⟩ ⟨y2.val % 128, by omega⟩ := Fin.ext (by simp only [col]; omega)
  refine Eq.trans (congrArg (fun j => (outsAt0 m c t.val t.isLt).1 (ix3 y0 y1 j)) hc) ((point m c t y0 _ y1 _).trans ?_)
  have hr := hR (seq t y0) (pos (chunk t) y1) ⟨y2.val / 128, by omega⟩ ⟨y2.val % 128, by omega⟩
  rw [nof_pos, pof_pos] at hr
  refine hr.symm.trans (congrArg R ?_)
  rw [← hc]
  blk_ext [idx t]
  all_goals rfl

end Cert.Proof.Ret

end
-- ==== Proof.RetRun.lean ====
module

public import proofs.«01_k».proof.Proof.Gen.RetRefIdeal.Run
public import proofs.«01_k».proof.Proof.Gen.RetRefIdeal.Step
public import Idealize.ShloMosaic.Lib.StableHlo.RunRead
public import Idealize.ShloMosaic.PureOps.Ideal
public import Idealize.ShloMosaic.Lib.Claim

/-!
The retention reference's run: its scan of the chunk states, trip by trip, and its result as a function of the state the last
trip leaves and of the arguments.
-/

@[expose] public section

set_option maxRecDepth 16384

noncomputable section

namespace Cert.Proof.RetRun

open Idealize.ShloMosaic Idealize.ShloMosaic.TcCoe Idealize.SL.Sem Idealize.ShloMosaic.StableHlo
open Cert.RetRefIdeal Cert.RetRefIdeal.Gen Cert.RetRefIdeal.Value
open Cert.RetRefIdeal.Step (State step init)

/-- A valuation carries the state `s` into trip `j`: the scanned values, the state, the states gathered so far, the decay of a
chunk and the trip's number stand in their buffers. -/
structure Carries (W : Valuation τ sig (Elt Ideal)) (s : State Ideal) (j : ℕ) : Prop where
  state : W (Proc.devRef .tc main_v117_3) = s.main_v117_3
  gathered : W (Proc.devRef .tc main_v117_4) = s.main_v117_4
  scanned : W (Proc.devRef .tc main_v117_0) = s.main_v117_0
  number : W (Proc.devRef .tc main_v117_2) = constantI S_ 32 (BitVec.ofNat 32 j)
  decay : W (Proc.devRef .tc main_v117_1) = Cert.RetRefIdeal.Step.K_main_v113 (F := Ideal)

variable {W : Valuation τ sig (Elt Ideal)} {s : State Ideal} {j : ℕ}

/-- A trip leaves the next state. -/
theorem state_next (h : Carries W s j) : step_main_v117_3 W = (step j s).main_v117_3 := by
  obtain ⟨h1, h2, h3, h4, h5⟩ := h
  rw [Cert.RetRefIdeal.Step.step_main_v117_3]
  unfold step_main_v117_3 Cert.RetRefIdeal.Step.b8 Cert.RetRefIdeal.Step.b7 Cert.RetRefIdeal.Step.b6 Cert.RetRefIdeal.Step.b5 Cert.RetRefIdeal.Step.b4
  rw [← h1, ← h3, ← h5, ← h4]
  rfl

/-- A trip gathers the state it starts from. -/
theorem gathered_next (h : Carries W s j) : step_main_v117_4 W = (step j s).main_v117_4 := by
  obtain ⟨h1, h2, h3, h4, h5⟩ := h
  rw [Cert.RetRefIdeal.Step.step_main_v117_4]
  unfold step_main_v117_4 Cert.RetRefIdeal.Step.b14 Cert.RetRefIdeal.Step.b9
  rw [← h1, ← h2, ← h4]
  rfl

/-- A trip's number is one more than the last trip's. -/
theorem number_next (h : Carries W s j) : step_main_v117_2 W = constantI S_ 32 (BitVec.ofNat 32 (j + 1)) := by
  unfold step_main_v117_2
  rw [h.number]
  funext i
  show BitVec.ofNat 32 j + 1#32 = BitVec.ofNat 32 (j + 1)
  simp only [BitVec.ofNat_add]

/-- One trip carries the next state into the next trip. -/
theorem carries_next (h : Carries W s j) : Carries (STEP W) (step j s) (j + 1) where
  state := (STEP_main_v117_3 W).trans (state_next h)
  gathered := (STEP_main_v117_4 W).trans (gathered_next h)
  number := (STEP_main_v117_2 W).trans (number_next h)
  decay := (STEP_main_v117_1 W).trans h.decay
  scanned := (STEP_main_v117_0 W).trans h.scanned

variable (m : (ℓ : Loc nD τ sig) → Buf (Elt Ideal) ℓ) (c : Dev nD)

/-- The state the first trip starts from. -/
abbrev first : State Ideal := init (m ((c.tc : Thread nD τ).loc main_arg0))

set_option maxRecDepth 65536 in
set_option maxHeartbeats 1000000 in
/-- The operations before the loop carry the first state into trip 0. -/
theorem carries_first : Carries (entryContents preI m c) (first m c) 0 := by
  constructor <;> (simp only [entryContents, afterL_cons, afterL_nil]; after_reads_simp) <;> rfl

/-- The state before trip `k`. -/
def before : ℕ → State Ideal
  | 0 => first m c
  | k + 1 => step k (before k)

/-- Before trip `k` the run carries the state before trip `k`. -/
theorem carries_before : ∀ k, Carries (STEP^[k] (entryContents preI m c)) (before m c k) k
  | 0 => carries_first m c
  | k + 1 => by
    rw [Function.iterate_succ_apply']
    exact carries_next (carries_before k)

set_option maxRecDepth 65536 in
/-- The result is what the operations after the loop make of the state the last trip leaves. -/
theorem out_carries (h : Carries W s j) {x0 : (⟨S8x4096x6936, .f32⟩ : BufTy).Contents (Elt Ideal)}
    (h0 : W (Proc.devRef .tc main_arg0) = x0) {x1 : (⟨S512, .f32⟩ : BufTy).Contents (Elt Ideal)}
    (h1 : W (Proc.devRef .tc main_arg1) = x1) : out_main_v294 W = Cert.RetRefIdeal.Step.R_main_v294 s x0 x1 := by
  unfold out_main_v294 Cert.RetRefIdeal.Step.R_main_v294
  rw [h.gathered, h0, h1]
  rfl

/-- The reference terminates with its result a function of the state after 32 trips and of its arguments, which it leaves. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v294)
        = Cert.RetRefIdeal.Step.R_main_v294 (before m c 32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans
    (out_carries (carries_before m c 32) (iter_main_arg0 m c 32) (iter_main_arg1 m c 32)), (h c).2.1, (h c).2.2⟩) (Value.run m ρ)

end Cert.Proof.RetRun

end
-- ==== Proof.RetRef.lean ====
/- The retention reference's result at an index: the recurrence's result there. -/
module

public import proofs.«01_k».proof.Proof.RetMath
public import proofs.«01_k».proof.Proof.RetRun

@[expose] public section

set_option maxRecDepth 16384

noncomputable section

namespace Cert.Proof.RetRef

open Idealize.ShloMosaic Idealize.ShloMosaic.TcCoe Idealize.SL.Sem
open Cert.Proof.RetMath
open Cert.RetRefIdeal Cert.RetRefIdeal.Gen

/-- The angles of the rotation. -/
def angV : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of the rotation, for every sequence and head. -/
def wideV (x : FVec Ideal S4096x32 .f32) : FVec Ideal S8x4096x4x32 .f32 :=
  broadcastInDim S8x4096x4x32 ![0, 1, 2, 3] bcast_S1x4096x1x32_S8x4096x4x32_0_1_2_3
    (broadcastInDim S1x4096x1x32 ![1, 2, 3] bcast_S4096x1x32_S1x4096x1x32_1_2_3 (broadcastInDim S4096x1x32 ![0, 2] bcast_S4096x32_S4096x1x32_0_2 x))

/-- The logarithms of the decays. -/
def lgV : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

/-- The rotation of every head's coordinates. -/
def rotV (x : FVec Ideal S8x4096x4x64 .f32) : FVec Ideal S8x4096x4x64 .f32 :=
  concatenate S8x4096x4x64 3
    [⟨S8x4096x4x32, subf (mulf (extractStridedSlice S8x4096x4x32 ![0, 0, 0, 0] x slices_S8x4096x4x64_S8x4096x4x32_0_0_0_0) (wideV (Host.cos angV)))
        (mulf (extractStridedSlice S8x4096x4x32 ![0, 0, 0, 32] x slices_S8x4096x4x64_S8x4096x4x32_0_0_0_32) (wideV (Host.sin angV)))⟩,
      ⟨S8x4096x4x32, addf (mulf (extractStridedSlice S8x4096x4x32 ![0, 0, 0, 0] x slices_S8x4096x4x64_S8x4096x4x32_0_0_0_0) (wideV (Host.sin angV)))
        (mulf (extractStridedSlice S8x4096x4x32 ![0, 0, 0, 32] x slices_S8x4096x4x64_S8x4096x4x32_0_0_0_32) (wideV (Host.cos angV)))⟩]
    concatenates_S8x4096x4x32_S8x4096x4x32_S8x4096x4x64_d3

variable (z : FVec Ideal S8x4096x6936 .f32)

/-- The rotated queries, chunk by chunk. -/
def qryV : FVec Ideal S8x32x128x4x64 .f32 :=
  shapeCast _ (rotV (shapeCast _ (extractStridedSlice S8x4096x256 ![0, 0, 1304] z slices_S8x4096x6936_S8x4096x256_0_0_1304)
    shapeCasts_S8x4096x256_S8x4096x4x64)) shapeCasts_S8x4096x4x64_S8x32x128x4x64

/-- The rotated and scaled keys, chunk by chunk. -/
def keyV : FVec Ideal S8x32x128x4x64 .f32 :=
  shapeCast _ (mulf (rotV (shapeCast _ (extractStridedSlice S8x4096x256 ![0, 0, 1560] z slices_S8x4096x6936_S8x4096x256_0_0_1560)
    shapeCasts_S8x4096x256_S8x4096x4x64)) (broadcastInDim S8x4096x4x64 ![] bcast_S_S8x4096x4x64 (constant S_ .f32 0x3E000000#32)))
    shapeCasts_S8x4096x4x64_S8x32x128x4x64

/-- The values, chunk by chunk. -/
def valV : FVec Ideal S8x32x128x4x128 .f32 :=
  shapeCast _ (extractStridedSlice S8x4096x512 ![0, 0, 1816] z slices_S8x4096x6936_S8x4096x512_0_0_1816) shapeCasts_S8x4096x512_S8x32x128x4x128

/-- Query position less key position. -/
def diffV : IVec S128x128 32 :=
  subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The decays within a chunk. -/
def decayV : FVec Ideal S8x32x4x128x128 .f32 :=
  broadcastInDim S8x32x4x128x128 ![0, 1, 2, 3, 4] bcast_S1x1x4x128x128_S8x32x4x128x128_0_1_2_3_4
    (broadcastInDim S1x1x4x128x128 ![2, 3, 4] bcast_S4x128x128_S1x1x4x128x128_2_3_4
      (select (broadcastInDim S4x128x128 ![1, 2] bcast_S128x128_S4x128x128_1_2 (cmpi .sge diffV (broadcastInDim S128x128 ![] bcast_S_S128x128 (constantI S_ 32 0#32))))
        (Host.exp (mulf (broadcastInDim S4x128x128 ![0, 1, 2] bcast_S4x1x1_S4x128x128_0_1_2 (broadcastInDim S4x1x1 ![0] bcast_S4_S4x1x1_0 lgV))
          (broadcastInDim S4x128x128 ![0, 1, 2] bcast_S1x128x128_S4x128x128_0_1_2 (broadcastInDim S1x128x128 ![1, 2] bcast_S128x128_S1x128x128_1_2
            (sitofp .f32 (maxsi diffV (broadcastInDim S128x128 ![] bcast_S_S128x128 (constantI S_ 32 0#32))))))))
        (broadcastInDim S4x128x128 ![] bcast_S_S4x128x128 (id (constant S_ .f32 0x00000000#32)))))

/-- A decay by head and offset of the positions, for every sequence, chunk and coordinate. -/
def expV (n : IVec S128 32) : FVec Ideal S8x32x128x4x64 .f32 :=
  broadcastInDim S8x32x128x4x64 ![0, 1, 2, 3, 4] bcast_S1x1x128x4x1_S8x32x128x4x64_0_1_2_3_4
    (broadcastInDim S1x1x128x4x1 ![2, 3] bcast_S128x4_S1x1x128x4x1_2_3 (transpose S128x4 [1, 0]
      (Host.exp (mulf (broadcastInDim S4x128 ![0, 1] bcast_S4x1_S4x128_0_1 (broadcastInDim S4x1 ![0] bcast_S4_S4x1_0 lgV))
        (broadcastInDim S4x128 ![0, 1] bcast_S1x128_S4x128_0_1 (broadcastInDim S1x128 ![1] bcast_S128_S1x128_1 (sitofp .f32 n)))))
      transposes_S4x128_S128x4_1_0))

/-- The heads' outputs before the normalisation, of the states before the chunks. -/
def mixV (s : FVec Ideal S32x8x4x64x128 .f32) : FVec Ideal S8x4096x4x128 .f32 :=
  shapeCast _ (addf
    (transpose S8x32x128x4x128 [0, 1, 4, 2, 3] (Host.dotGeneral dot_S8x32x128x4x128_S8x32x4x128x128_S8x32x4x128x128_2_4_4_3_013_012 none (valV z)
      (mulf (Host.dotGeneral dot_S8x32x128x4x64_S8x32x128x4x64_S8x32x4x128x128_4_4_2_2_013_013 none (qryV z) (keyV z)) decayV))
      transposes_S8x32x4x128x128_S8x32x128x4x128_0_1_4_2_3)
    (transpose S8x32x128x4x128 [0, 1, 4, 2, 3] (Host.dotGeneral dot_S8x32x4x64x128_S8x32x128x4x64_S8x32x4x128x128_3_4_4_2_012_013 none
      (transpose S8x32x4x64x128 [1, 0, 2, 3, 4] s transposes_S32x8x4x64x128_S8x32x4x64x128_1_0_2_3_4)
      (mulf (qryV z) (expV (addi (iotaInDim S128 32 0) (broadcastInDim S128 ![] bcast_S_S128 (constantI S_ 32 1#32))))))
      transposes_S8x32x4x128x128_S8x32x128x4x128_0_1_4_2_3)) shapeCasts_S8x32x128x4x128_S8x4096x4x128

/-- Every head's rows' means. -/
def meanV (o : FVec Ideal S8x4096x4x128 .f32) : FVec Ideal S8x4096x4x1 .f32 :=
  Host.divf (broadcastInDim S8x4096x4x1 ![0, 1, 2] bcast_S8x4096x4_S8x4096x4x1_0_1_2
    (Host.reduceAdd o (constant S_ .f32 0x00000000#32) reducesTo_S8x4096x4x128_S8x4096x4_d3 h_S_))
    (broadcastInDim S8x4096x4x1 ![] bcast_S_S8x4096x4x1 (constant S_ .f32 0x43000000#32))

/-- Every head's rows less their means. -/
def devV (o : FVec Ideal S8x4096x4x128 .f32) : FVec Ideal S8x4096x4x128 .f32 :=
  subf o (broadcastInDim S8x4096x4x128 ![0, 1, 2, 3] bcast_S8x4096x4x1_S8x4096x4x128_0_1_2_3 (meanV o))

/-- The normalisation, the gains and the gate. -/
def gatedV (o : FVec Ideal S8x4096x4x128 .f32) (g : FVec Ideal S512 .f32) : FVec Ideal S8x4096x512 .bf16 :=
  truncf .bf16 (mulf (mulf (extractStridedSlice S8x4096x512 ![0, 0, 2328] z slices_S8x4096x6936_S8x4096x512_0_0_2328)
      (Host.divf (broadcastInDim S8x4096x512 ![] bcast_S_S8x4096x512 (constant S_ .f32 0x3F800000#32))
        (addf (broadcastInDim S8x4096x512 ![] bcast_S_S8x4096x512 (constant S_ .f32 0x3F800000#32))
          (Host.exp (Host.negf (extractStridedSlice S8x4096x512 ![0, 0, 2328] z slices_S8x4096x6936_S8x4096x512_0_0_2328))))))
    (mulf (shapeCast _ (mulf (devV o) (broadcastInDim S8x4096x4x128 ![0, 1, 2, 3] bcast_S8x4096x4x1_S8x4096x4x128_0_1_2_3
        (Host.rsqrt (addf (meanV (mulf (devV o) (devV o))) (broadcastInDim S8x4096x4x1 ![] bcast_S_S8x4096x4x1 (constant S_ .f32 0x358637BD#32))))))
        shapeCasts_S8x4096x4x128_S8x4096x512)
      (broadcastInDim S8x4096x512 ![0, 1, 2] bcast_S1x1x512_S8x4096x512_0_1_2 (broadcastInDim S1x1x512 ![2] bcast_S512_S1x1x512_2 g)))) bitsLt_bf16_f32

/-- The reference's result is that of these steps. -/
theorem result_eq (s : Cert.RetRefIdeal.Step.State Ideal) (g : FVec Ideal S512 .f32) :
    Cert.RetRefIdeal.Step.R_main_v294 s z g = gatedV z (mixV z s.main_v117_4) g := rfl

/-- What the chunks add to the states. -/
def kvV : FVec Ideal S32x8x4x64x128 .f32 :=
  transpose S32x8x4x64x128 [1, 0, 2, 3, 4] (Host.dotGeneral dot_S8x32x128x4x64_S8x32x128x4x128_S8x32x4x64x128_2_2_4_4_013_013 none
    (mulf (keyV z) (expV (subi (broadcastInDim S128 ![] bcast_S_S128 (constantI S_ 32 127#32)) (iotaInDim S128 32 0)))) (valV z))
    transposes_S8x32x4x64x128_S32x8x4x64x128_1_0_2_3_4

/-- The scanned values are those. -/
theorem scanned_eq : Cert.RetRefIdeal.Step.A_main_v115 (F := Ideal) z = kvV z := rfl

/-- The projected columns by sequence, position and column. -/
def Zr (b : Fin 8) (t : Fin 4096) (j : Fin 6936) : EReal := z (ix3 b t j)

theorem angV_at (t : Fin 4096) (i : Fin 32) : angV (ix2 t i) = ang t i := by pointwise [angV, ang]
theorem wideV_at (x : FVec Ideal S4096x32 .f32) (b : Fin 8) (t : Fin 4096) (h : Fin 4) (i : Fin 32) : wideV x (ix4 b t h i) = x (ix2 t i) := by
  pointwise [wideV]
theorem lgV_at (h : Fin 4) : lgV (ix1 h) = lg h := by pointwise [lgV, lg]
theorem decayV_at (b : Fin 8) (n : Fin 32) (h : Fin 4) (p q : Fin 128) : decayV (ix5 b n h p q) = decay h p q := by
  pointwise [decayV, decay, diffV, lgV_at, id_eq]
theorem expV_at (k : IVec S128 32) (b : Fin 8) (n : Fin 32) (p : Fin 128) (h : Fin 4) (d : Fin 64) :
    expV k (ix5 b n p h d) = Ideal.exp (lg h * (FloatOps.sitofp (F := Ideal) .f32 (k (ix1 p)) : EReal)) := by
  pointwise [expV, lgV_at]

theorem rotV_at (x : FVec Ideal S8x4096x4x64 .f32) (b : Fin 8) (t : Fin 4096) (h : Fin 4) (d : Fin 64) :
    rotV x (ix4 b t h d) = rot (fun e => x (ix4 b t h e)) t d := by
  pointwise [rotV, rot, wideV_at, angV_at]
  split
  · rfl
  · have e : ∀ h', (⟨32 + (d.val - 32), h'⟩ : Fin 64) = d := fun h' => Fin.ext (by show 32 + (d.val - 32) = d.val; omega)
    rw [e]
theorem qryV_at (b : Fin 8) (n : Fin 32) (p : Fin 128) (h : Fin 4) (d : Fin 64) :
    qryV z (ix5 b n p h d) = qry (Zr z) b (pos n p) h d := by
  pointwise [qryV, qry, rotV_at, Zr, pos]
theorem keyV_at (b : Fin 8) (n : Fin 32) (p : Fin 128) (h : Fin 4) (d : Fin 64) :
    keyV z (ix5 b n p h d) = key (Zr z) b (pos n p) h d := by
  pointwise [keyV, key, rotV_at, Zr, pos, eighth]
theorem valV_at (b : Fin 8) (n : Fin 32) (p : Fin 128) (h : Fin 4) (v : Fin 128) :
    valV z (ix5 b n p h v) = val (Zr z) b (pos n p) h v := by
  pointwise [valV, val, Zr, pos]
theorem kvV_at (n : Fin 32) (b : Fin 8) (h : Fin 4) (d : Fin 64) (v : Fin 128) :
    kvV z (ix5 n b h d v) = kv (Zr z) b n h d v := by
  pointwise [kvV, kv, keyV_at, valV_at, expV_at, zeta]
theorem mixV_at (s : FVec Ideal S32x8x4x64x128 .f32) (b : Fin 8) (t : Fin 4096) (h : Fin 4) (v : Fin 128)
    (hs : ∀ d, s (ix5 (nof t) b h d v) = state (Zr z) b h d v (nof t).val) : mixV z s (ix4 b t h v) = mix (Zr z) b (nof t) (pof t) h v := by
  pointwise [mixV, mix, keyV_at, valV_at, qryV_at, expV_at, decayV_at, xi]
  refine congrArg₂ (· + ·) (Finset.sum_congr rfl fun q _ => mul_comm _ _) (Finset.sum_congr rfl fun d _ => ?_)
  rw [← hs d]
  exact mul_comm _ _
theorem meanV_at (o : FVec Ideal S8x4096x4x128 .f32) (b : Fin 8) (t : Fin 4096) (h : Fin 4) (w : Fin 1) :
    meanV o (ix4 b t h w) = Ideal.div (∑ u : Fin 128, o (ix4 b t h u)) (Ideal.ofBits .f32 0x43000000#32) := by
  pointwise [meanV]
theorem devV_at (o : FVec Ideal S8x4096x4x128 .f32) (b : Fin 8) (t : Fin 4096) (h : Fin 4) (v : Fin 128) :
    devV o (ix4 b t h v) = dev (fun u => o (ix4 b t h u)) v := by
  pointwise [devV, dev, meanV_at]
theorem gatedV_at (o : FVec Ideal S8x4096x4x128 .f32) (g : FVec Ideal S512 .f32) (b : Fin 8) (t : Fin 4096) (h : Fin 4) (v : Fin 128) :
    gatedV z o g (ix3 b t ⟨h.val * 128 + v.val, by omega⟩)
      = gate (Zr z) b t h v * Ideal.logistic (gate (Zr z) b t h v)
        * (normed (fun u => o (ix4 b t h u)) v * g (ix1 ⟨h.val * 128 + v.val, by omega⟩)) := by
  pointwise [gatedV, gate, Zr, normed, devV_at, meanV_at, Ideal.logistic]

end Cert.Proof.RetRef

end
-- ==== Proof.RetScan.lean ====
/- The retention reference's scan leaves the recurrence's states, and its result is the recurrence's. -/
module

public import proofs.«01_k».proof.Proof.RetRef

@[expose] public section

set_option maxRecDepth 16384

noncomputable section

namespace Cert.Proof.RetRef

open Idealize.ShloMosaic Idealize.ShloMosaic.TcCoe Idealize.SL.Sem
open Cert.Proof.RetMath Cert.Proof.RetRun
open Cert.RetRefIdeal Cert.RetRefIdeal.Gen
open Cert.RetRefIdeal.Step (State step init)

/-- The decay of a chunk, as the reference holds it. -/
theorem gchunk_at (h : Fin 4) : (Cert.RetRefIdeal.Step.K_main_v113 (F := Ideal)) (ix4 0 h 0 0) = gchunk h := by
  have e : Cert.RetRefIdeal.Step.K_main_v94 (F := Ideal) = lgV := rfl
  pointwise [Cert.RetRefIdeal.Step.K_main_v113, Cert.RetRefIdeal.Step.K_main_v112, Cert.RetRefIdeal.Step.K_main_v111,
    Cert.RetRefIdeal.Step.K_main_v110, Cert.RetRefIdeal.Step.K_main_cst_6, e, lgV_at, gchunk]

/-- Where trip `j`'s slice starts: at chunk `j`, at the origin of every other axis. -/
theorem starts (j : ℕ) (hj : j < 32) (k : Fin 5) :
    Host.clampedStart S32x8x4x64x128 S1x8x4x64x128 rfl (fun k => BitVec.toInt
      (![constantI S_ 32 (BitVec.ofNat 32 j), constantI S_ 32 0#32, constantI S_ 32 0#32, constantI S_ 32 0#32, constantI S_ 32 0#32]
        k (Shape.Idx.first h_S_))) k = (![j, 0, 0, 0, 0] : Fin 5 → ℕ) k :=
  (by decide +kernel : ∀ (j : Fin 32) (k : Fin 5), Host.clampedStart S32x8x4x64x128 S1x8x4x64x128 rfl (fun k => BitVec.toInt
      (![constantI S_ 32 (BitVec.ofNat 32 j.val), constantI S_ 32 0#32, constantI S_ 32 0#32, constantI S_ 32 0#32, constantI S_ 32 0#32]
        k (Shape.Idx.first h_S_))) k = (![j.val, 0, 0, 0, 0] : Fin 5 → ℕ) k) ⟨j, hj⟩ k

/-- A trip's new state at a place. -/
theorem step_state (j : ℕ) (hj : j < 32) (s : State Ideal) (b : Fin 8) (h : Fin 4) (d : Fin 64) (v : Fin 128) :
    (Cert.RetRefIdeal.Step.b8 j s : FVec Ideal S8x4x64x128 .f32) (ix4 b h d v)
      = gchunk h * (s.main_v117_3 : FVec Ideal S8x4x64x128 .f32) (ix4 b h d v)
        + (s.main_v117_0 : FVec Ideal S32x8x4x64x128 .f32) (ix5 ⟨j, hj⟩ b h d v) := by
  pointwise [Cert.RetRefIdeal.Step.b8, Cert.RetRefIdeal.Step.b7, Cert.RetRefIdeal.Step.b6, Cert.RetRefIdeal.Step.b5,
    Cert.RetRefIdeal.Step.b4, Cert.RetRefIdeal.Step.b3, Cert.RetRefIdeal.Step.b2, Cert.RetRefIdeal.Step.b1, Cert.RetRefIdeal.Step.b0, gchunk_at]
  simp only [starts j hj, Matrix.cons_val, Nat.zero_add]

/-- What a trip gathers. -/
theorem step_gathered (j : ℕ) (hj : j < 32) (s : State Ideal) (n : Fin 32) (b : Fin 8) (h : Fin 4) (d : Fin 64) (v : Fin 128) :
    (Cert.RetRefIdeal.Step.b14 j s : FVec Ideal S32x8x4x64x128 .f32) (ix5 n b h d v)
      = if n.val = j then (s.main_v117_3 : FVec Ideal S8x4x64x128 .f32) (ix4 b h d v)
        else (s.main_v117_4 : FVec Ideal S32x8x4x64x128 .f32) (ix5 n b h d v) := by
  pointwise [Cert.RetRefIdeal.Step.b14, Cert.RetRefIdeal.Step.b13, Cert.RetRefIdeal.Step.b12, Cert.RetRefIdeal.Step.b11,
    Cert.RetRefIdeal.Step.b10, Cert.RetRefIdeal.Step.b9]
  simp only [starts j hj, Matrix.cons_val, Nat.zero_le, and_true, Nat.sub_zero]
  by_cases e : n.val = j
  · rw [dif_pos (by omega), if_pos e]
  · rw [dif_neg (by omega), if_neg e]

variable (m : (ℓ : Loc nD τ sig) → Buf (Elt Ideal) ℓ) (c : Dev nD)

/-- The projected columns. -/
abbrev zr : FVec Ideal S8x4096x6936 .f32 := m ((c.tc : Thread nD τ).loc main_arg0)

theorem scanned_before : ∀ k, (before m c k).main_v117_0 = kvV (zr m c)
  | 0 => scanned_eq _
  | k + 1 => scanned_before k

/-- Before trip `k` the state is the recurrence's before chunk `k`. -/
theorem state_before (b : Fin 8) (h : Fin 4) (d : Fin 64) (v : Fin 128) : ∀ k, k ≤ 32 →
    ((before m c k).main_v117_3 : FVec Ideal S8x4x64x128 .f32) (ix4 b h d v) = state (Zr (zr m c)) b h d v k
  | 0, _ => by
    show (Cert.RetRefIdeal.Step.K_main_v114 (F := Ideal)) (ix4 b h d v) = 0
    pointwise [Cert.RetRefIdeal.Step.K_main_v114, Cert.RetRefIdeal.Step.K_main_cst_7]
  | k + 1, hk => by
    refine (congrFun (Cert.RetRefIdeal.Step.step_main_v117_3 k (before m c k)) (ix4 b h d v)).trans ?_
    rw [step_state k (by omega), state_before b h d v k (by omega), scanned_before, kvV_at, state, dif_pos (by omega)]

/-- After trip `n` the state before chunk `n` is gathered. -/
theorem gathered_before (n : Fin 32) (b : Fin 8) (h : Fin 4) (d : Fin 64) (v : Fin 128) : ∀ k, k ≤ 32 → n.val < k →
    ((before m c k).main_v117_4 : FVec Ideal S32x8x4x64x128 .f32) (ix5 n b h d v) = state (Zr (zr m c)) b h d v n.val
  | 0, _, hn => absurd hn (Nat.not_lt_zero _)
  | k + 1, hk, hn => by
    refine (congrFun (Cert.RetRefIdeal.Step.step_main_v117_4 k (before m c k)) (ix5 n b h d v)).trans ?_
    rw [step_gathered k (by omega)]
    split
    · next e => rw [state_before m c b h d v k (by omega), e]
    · next e => exact gathered_before n b h d v k (by omega) (by omega)

/-- THE REFERENCE'S RESULT at a place is the recurrence's. -/
theorem result_at (b : Fin 8) (t : Fin 4096) (h : Fin 4) (v : Fin 128) :
    (Cert.RetRefIdeal.Step.R_main_v294 (before m c 32) (m ((c.tc : Thread nD τ).loc main_arg0)) (m ((c.tc : Thread nD τ).loc main_arg1))
        : FVec Ideal S8x4096x512 .bf16) (ix3 b t ⟨h.val * 128 + v.val, by omega⟩)
      = result (Zr (zr m c)) b (fun j => (m ((c.tc : Thread nD τ).loc main_arg1) : FVec Ideal S512 .f32) (ix1 j)) (nof t) (pof t) h v := by
  rw [result_eq]
  refine (gatedV_at _ _ _ b t h v).trans ?_
  unfold result
  rw [pos_of]
  refine congrArg (fun f : Fin 128 → EReal => _ * (normed f v * _)) ?_
  funext u
  exact mixV_at _ _ b t h u fun d => gathered_before m c (nof t) b h d u 32 (le_refl _) (nof t).isLt

end Cert.Proof.RetRef

end
-- ==== Proof.InPure.lean ====
/- The input projection on one row: what the kernel's body stores and what the reference computes, column by column, as
   the normalised row's product with a column of the weights. -/
module

public import proofs.«01_k».proof.Proof.Rows
public import proofs.«01_k».proof.Proof.Gen.InKernelIdeal.Skeleton
public import proofs.«01_k».proof.Proof.Gen.InRefIdeal.Read

@[expose] public section

set_option maxRecDepth 16384

noncomputable section

namespace Cert.Proof.In

open Idealize.ShloMosaic Idealize.ShloMosaic.TcCoe Idealize.SL.Sem Cert.Proof.Rows

/-- The normalised row's product with a column of weights. -/
def proj (x g w : Fin 1024 → EReal) : EReal := ∑ k, rms x g k * w k

/-- The keys' scale. -/
def eighth : EReal := Ideal.ofBits .f32 0x3E000000#32
/-- The queries' scale: the reciprocal root of the heads' width, times the logarithm of `e` to the base two. -/
def qscale : EReal := Ideal.ofBits .f32 0x3E38AA3B#32

theorem eighth_eq : eighth = (((1 / 8 : ℝ) : ℝ) : EReal) := by
  unfold eighth
  simp [Ideal.ofBits, Ideal.ieee, -EReal.coe_mul]; norm_num
theorem eighth_pos : 0 ≤ eighth ∧ eighth ≠ ⊤ := by
  rw [eighth_eq]
  exact ⟨EReal.coe_nonneg.mpr (by norm_num), EReal.coe_ne_top _⟩
theorem qscale_eq : qscale = (((12102203 / 67108864 : ℝ) : ℝ) : EReal) := by
  unfold qscale
  simp [Ideal.ofBits, Ideal.ieee, -EReal.coe_mul]; norm_num
theorem qscale_pos : 0 ≤ qscale ∧ qscale ≠ ⊤ := by
  rw [qscale_eq]
  exact ⟨EReal.coe_nonneg.mpr (by norm_num), EReal.coe_ne_top _⟩

/-- A product with a scaled column is the product scaled. -/
theorem proj_scale (x g w : Fin 1024 → EReal) (s : EReal) (hs : 0 ≤ s ∧ s ≠ ⊤) :
    proj x g (fun k => w k * s) = proj x g w * s := by
  unfold proj
  simp only [← mul_assoc]
  generalize hf : (fun k => rms x g k * w k) = f
  simp only [show ∀ k, rms x g k * w k = f k from fun k => congrFun hf k]
  induction (Finset.univ : Finset (Fin 1024)) using Finset.induction_on with
  | empty => simp
  | insert a t ha ih => rw [Finset.sum_insert ha, Finset.sum_insert ha, ih, EReal.right_distrib_of_nonneg_of_ne_top hs.1 hs.2]

/-- A product with a column of zeros is zero. -/
theorem proj_zero (x g : Fin 1024 → EReal) : proj x g (fun _ => 0) = 0 := by
  unfold proj; simp

/-- The projected column a lane of a halves-major query or key block holds, from the block's first projected column on. -/
def zcol (o : Nat) (ho : o ≤ 6680) (x : Fin 256) : Fin 6936 := ⟨o + (x.val / 32 % 4 * 64 + x.val / 128 * 32 + x.val % 32), by have := x.isLt; omega⟩

section Kernel
open Cert.InKernelIdeal Cert.InKernelIdeal.Gen

/-- The normalised block at a row and a column. -/
theorem pay3_at (X : FVec Ideal S512x1024 .f32) (G : FVec Ideal S1x1024 .f32) (r : Fin 512) (k : Fin 1024) :
    (k0_pay3 X G : FVec Ideal S512x1024 .bf16) (ix2 r k) = rms (fun k => X (ix2 r k)) (fun k => G (ix2 0 k)) k := by
  pointwise [k0_pay3, rms, scale]

/-- The projection of a block of rows, at a row and a column. -/
theorem pay5_at (X : FVec Ideal S512x1024 .f32) (G : FVec Ideal S1x1024 .f32) (A : FVec Ideal S1024x2944 .bf16)
    (r : Fin 512) (j : Fin 2944) :
    (k0_pay5 X G A : FVec Ideal S512x2944 .f32) (ix2 r j)
      = proj (fun k => X (ix2 r k)) (fun k => G (ix2 0 k)) (fun k => A (ix2 k j)) := by
  pointwise [k0_pay5, pay3_at, proj]

theorem pay9_at (A : FVec Ideal S512x2944 .f32) (r : Fin 512) (j : Fin 2048) :
    (k0_pay9 A : FVec Ideal S512x2048 .f32) (ix2 r j) = A (ix2 r ⟨640 + j.val, by omega⟩) := by
  pointwise [k0_pay9]
theorem pay10_at (A : FVec Ideal S512x2944 .f32) (r : Fin 512) (j : Fin 128) :
    (k0_pay10 A : FVec Ideal S512x128 .f32) (ix2 r j) = A (ix2 r ⟨2688 + j.val, by omega⟩) := by
  pointwise [k0_pay10]
theorem pay11_at (A : FVec Ideal S512x2944 .f32) (r : Fin 512) (j : Fin 128) :
    (k0_pay11 A : FVec Ideal S512x128 .f32) (ix2 r j) = A (ix2 r ⟨2816 + j.val, by omega⟩) := by
  pointwise [k0_pay11]
theorem pay8_at (A : FVec Ideal S512x2944 .f32) (j : Fin 128) (r : Fin 512) :
    (k0_pay8 A : FVec Ideal S128x512 .f32) (ix2 j r) = A (ix2 r ⟨512 + j.val, by omega⟩) := by
  pointwise [k0_pay8]
theorem pay7_at (X : FVec Ideal S512x1024 .f32) (G : FVec Ideal S1x1024 .f32) (A : FVec Ideal S1024x2944 .bf16) (j : Fin 512) (r : Fin 512) :
    (k0_pay7 (k0_pay6 X G A) : FVec Ideal S512x512 .bf16) (ix2 j r) = (k0_pay5 X G A : FVec Ideal S512x2944 .f32) (ix2 r ⟨j.val, by omega⟩) := by
  pointwise [k0_pay7, k0_pay6]

end Kernel

section Reference
open Cert.InRefIdeal Cert.InRefIdeal.Gen Cert.InRefIdeal.Read

variable (x0 : FVec Ideal S8x4096x1024 .f32) (x1 : FVec Ideal S1024 .f32) (x2 : FVec Ideal S1024x6936 .f32)

/-- The reference's projection at a row and a column. -/
def zr (R : Fin 32768) (J : Fin 6936) : EReal :=
  proj (fun k => x0 (ix3 ⟨R.val / 4096, by omega⟩ ⟨R.val % 4096, by omega⟩ k)) (fun k => x1 (ix1 k)) (fun k => x2 (ix2 k J))

theorem v14_at (R : Fin 32768) (J : Fin 6936) :
    (val_main_v14 (F := Ideal) x0 x1 x2 : FVec Ideal S32768x6936 .f32) (ix2 R J) = zr x0 x1 x2 R J := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, zr, proj, rms, scale]

/-- The compressed keys and values. -/
theorem v16_at (R : Fin 32768) (j : Fin 128) :
    (val_main_v16 (F := Ideal) x0 x1 x2 : FVec Ideal S32768x128 .f32) (ix2 R j) = zr x0 x1 x2 R ⟨512 + j.val, by omega⟩ := by
  pointwise [val_main_v16, v14_at]
theorem v17_at (R : Fin 32768) (j : Fin 128) :
    (val_main_v17 (F := Ideal) x0 x1 x2 : FVec Ideal S32768x128 .f32) (ix2 R j) = zr x0 x1 x2 R ⟨640 + j.val, by omega⟩ := by
  pointwise [val_main_v17, v14_at]

/-- The queries, scaled and transposed. -/
theorem v42_at (j : Fin 512) (R : Fin 32768) :
    (val_main_v42 (F := Ideal) x0 x1 x2 : FVec Ideal S512x32768 .bf16) (ix2 j R) = zr x0 x1 x2 R ⟨j.val, by omega⟩ * qscale := by
  pointwise [val_main_v42, val_main_v41, val_main_v40, val_main_v39, val_main_cst_3, val_main_v15, v14_at, qscale]

/-- The retention's values. -/
theorem v38_v (R : Fin 32768) (x : Fin 512) :
    (val_main_v38 (F := Ideal) x0 x1 x2 : FVec Ideal S32768x2048 .f32) (ix2 R ⟨0 + x.val, by omega⟩) = zr x0 x1 x2 R ⟨1816 + x.val, by omega⟩ := by
  unfold val_main_v38
  refine Eq.trans (concatenate_apply_piece (t := S32768x2048) 1 _ _ _ 0 (by show 0 < 8; decide) S32768x512 _ rfl rfl 0 rfl (ix2 R x) ?_ ?_) ?_
  · intro a ha; fin_cases a <;> first | rfl | exact absurd rfl ha
  · show 0 + x.val = 0 + x.val; rfl
  simp only [Matrix.cons_val]
  pointwise [val_main_v25, v14_at, eighth, zcol]

/-- The retention's gates. -/
theorem v38_g (R : Fin 32768) (x : Fin 512) :
    (val_main_v38 (F := Ideal) x0 x1 x2 : FVec Ideal S32768x2048 .f32) (ix2 R ⟨512 + x.val, by omega⟩) = zr x0 x1 x2 R ⟨2328 + x.val, by omega⟩ := by
  unfold val_main_v38
  refine Eq.trans (concatenate_apply_piece (t := S32768x2048) 1 _ _ _ 1 (by show 1 < 8; decide) S32768x512 _ rfl rfl 512 rfl (ix2 R x) ?_ ?_) ?_
  · intro a ha; fin_cases a <;> first | rfl | exact absurd rfl ha
  · rfl
  simp only [Matrix.cons_val]
  pointwise [val_main_v26, v14_at, eighth, zcol]

/-- The retention's queries, halves-major. -/
theorem v38_q (R : Fin 32768) (x : Fin 256) :
    (val_main_v38 (F := Ideal) x0 x1 x2 : FVec Ideal S32768x2048 .f32) (ix2 R ⟨1024 + x.val, by omega⟩) = zr x0 x1 x2 R (zcol 1304 (by decide) x) := by
  unfold val_main_v38
  refine Eq.trans (concatenate_apply_piece (t := S32768x2048) 1 _ _ _ 2 (by show 2 < 8; decide) S32768x256 _ rfl rfl 1024 rfl (ix2 R x) ?_ ?_) ?_
  · intro a ha; fin_cases a <;> first | rfl | exact absurd rfl ha
  · rfl
  simp only [Matrix.cons_val]
  pointwise [val_main_v32, val_main_v31, val_main_v30, val_main_v23, v14_at, eighth, zcol]

/-- The retention's keys, halves-major and scaled. -/
theorem v38_k (R : Fin 32768) (x : Fin 256) :
    (val_main_v38 (F := Ideal) x0 x1 x2 : FVec Ideal S32768x2048 .f32) (ix2 R ⟨1280 + x.val, by omega⟩) = zr x0 x1 x2 R (zcol 1560 (by decide) x) * eighth := by
  unfold val_main_v38
  refine Eq.trans (concatenate_apply_piece (t := S32768x2048) 1 _ _ _ 3 (by show 3 < 8; decide) S32768x256 _ rfl rfl 1280 rfl (ix2 R x) ?_ ?_) ?_
  · intro a ha; fin_cases a <;> first | rfl | exact absurd rfl ha
  · rfl
  simp only [Matrix.cons_val]
  pointwise [val_main_v37, val_main_v36, val_main_cst_2, val_main_v35, val_main_v34, val_main_v33, val_main_v24, v14_at, eighth, zcol]

/-- The selected keys. -/
theorem v38_ks (R : Fin 32768) (x : Fin 128) :
    (val_main_v38 (F := Ideal) x0 x1 x2 : FVec Ideal S32768x2048 .f32) (ix2 R ⟨1536 + x.val, by omega⟩) = zr x0 x1 x2 R ⟨768 + x.val, by omega⟩ := by
  unfold val_main_v38
  refine Eq.trans (concatenate_apply_piece (t := S32768x2048) 1 _ _ _ 4 (by show 4 < 8; decide) S32768x128 _ rfl rfl 1536 rfl (ix2 R x) ?_ ?_) ?_
  · intro a ha; fin_cases a <;> first | rfl | exact absurd rfl ha
  · rfl
  simp only [Matrix.cons_val]
  pointwise [val_main_v18, v14_at, eighth, zcol]

/-- The selected values. -/
theorem v38_vs (R : Fin 32768) (x : Fin 128) :
    (val_main_v38 (F := Ideal) x0 x1 x2 : FVec Ideal S32768x2048 .f32) (ix2 R ⟨1664 + x.val, by omega⟩) = zr x0 x1 x2 R ⟨896 + x.val, by omega⟩ := by
  unfold val_main_v38
  refine Eq.trans (concatenate_apply_piece (t := S32768x2048) 1 _ _ _ 5 (by show 5 < 8; decide) S32768x128 _ rfl rfl 1664 rfl (ix2 R x) ?_ ?_) ?_
  · intro a ha; fin_cases a <;> first | rfl | exact absurd rfl ha
  · rfl
  simp only [Matrix.cons_val]
  pointwise [val_main_v19, v14_at, eighth, zcol]

/-- The window's keys. -/
theorem v38_kw (R : Fin 32768) (x : Fin 128) :
    (val_main_v38 (F := Ideal) x0 x1 x2 : FVec Ideal S32768x2048 .f32) (ix2 R ⟨1792 + x.val, by omega⟩) = zr x0 x1 x2 R ⟨1024 + x.val, by omega⟩ := by
  unfold val_main_v38
  refine Eq.trans (concatenate_apply_piece (t := S32768x2048) 1 _ _ _ 6 (by show 6 < 8; decide) S32768x128 _ rfl rfl 1792 rfl (ix2 R x) ?_ ?_) ?_
  · intro a ha; fin_cases a <;> first | rfl | exact absurd rfl ha
  · rfl
  simp only [Matrix.cons_val]
  pointwise [val_main_v20, v14_at, eighth, zcol]

/-- The window's values. -/
theorem v38_vw (R : Fin 32768) (x : Fin 128) :
    (val_main_v38 (F := Ideal) x0 x1 x2 : FVec Ideal S32768x2048 .f32) (ix2 R ⟨1920 + x.val, by omega⟩) = zr x0 x1 x2 R ⟨1152 + x.val, by omega⟩ := by
  unfold val_main_v38
  refine Eq.trans (concatenate_apply_piece (t := S32768x2048) 1 _ _ _ 7 (by show 7 < 8; decide) S32768x128 _ rfl rfl 1920 rfl (ix2 R x) ?_ ?_) ?_
  · intro a ha; fin_cases a <;> first | rfl | exact absurd rfl ha
  · rfl
  simp only [Matrix.cons_val]
  pointwise [val_main_v21, v14_at, eighth, zcol]

/-- The gates' columns. -/
theorem v44_g (R : Fin 32768) (x : Fin 24) :
    (val_main_v44 (F := Ideal) x0 x1 x2 : FVec Ideal S32768x128 .f32) (ix2 R ⟨0 + x.val, by omega⟩) = zr x0 x1 x2 R ⟨1280 + x.val, by omega⟩ := by
  unfold val_main_v44
  refine Eq.trans (concatenate_apply_piece (t := S32768x128) 1 _ _ _ 0 (by show 0 < 2; decide) S32768x24 _ rfl rfl 0 rfl (ix2 R x) ?_ ?_) ?_
  · intro a ha; fin_cases a <;> first | rfl | exact absurd rfl ha
  · show 0 + x.val = 0 + x.val; rfl
  simp only [Matrix.cons_val]
  pointwise [val_main_v22, v14_at, eighth, zcol]

/-- The columns filled with zeros. -/
theorem v44_0 (R : Fin 32768) (x : Fin 104) :
    (val_main_v44 (F := Ideal) x0 x1 x2 : FVec Ideal S32768x128 .f32) (ix2 R ⟨24 + x.val, by omega⟩) = 0 := by
  unfold val_main_v44
  refine Eq.trans (concatenate_apply_piece (t := S32768x128) 1 _ _ _ 1 (by show 1 < 2; decide) S32768x104 _ rfl rfl 24 rfl (ix2 R x) ?_ ?_) ?_
  · intro a ha; fin_cases a <;> first | rfl | exact absurd rfl ha
  · rfl
  simp only [Matrix.cons_val]
  pointwise [val_main_v43, val_main_cst_4, v14_at, eighth, zcol]

/-- The gates, transposed. -/
theorem v45_at (j : Fin 128) (R : Fin 32768) :
    (val_main_v45 (F := Ideal) x0 x1 x2 : FVec Ideal S128x32768 .f32) (ix2 j R)
      = (val_main_v44 (F := Ideal) x0 x1 x2 : FVec Ideal S32768x128 .f32) (ix2 R j) := by
  pointwise [val_main_v45]

end Reference

end Cert.Proof.In

end
-- ==== Proof.InRun.lean ====
/-
  Hand-written, untrusted. The run of the input projection's kernel: at every grid point the body leaves in five of its
  six output blocks a stated function of the input blocks it was handed — the projection's columns, cut and transposed —
  and in the sixth, the convolution's, some contents of which nothing is said. The kernel's working buffer holds some
  contents between the points, and nothing of it is read here.
-/
module

public import proofs.«01_k».proof.Proof.Gen.InKernelIdeal.Frame
public import proofs.«01_k».proof.Proof.Gen.InKernelIdeal.Skeleton
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 65536

noncomputable section

namespace Cert.Proof.InRun

open Cert.InKernelIdeal Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The rectangles the body loads and stores these blocks through: whole blocks, and the weights' columns past the gated
    linear unit's. -/
abbrev rX : Rect S512x1024 := Rect.unit (s := S512x1024) ![0, 0] S512x1024.size inb_S512x1024_S512x1024_0_0
abbrev rG : Rect S1x1024 := Rect.unit (s := S1x1024) ![0, 0] S1x1024.size inb_S1x1024_S1x1024_0_0
abbrev rW : Rect S1024x3968 := Rect.unit (s := S1024x3968) ![0, 1024] S1024x2944.size inb_S1024x3968_S1024x2944_0_1024
abbrev rZ : Rect S512x2048 := Rect.unit (s := S512x2048) ![0, 0] S512x2048.size inb_S512x2048_S512x2048_0_0
abbrev rK : Rect S512x128 := Rect.unit (s := S512x128) ![0, 0] S512x128.size inb_S512x128_S512x128_0_0
abbrev rQ : Rect S512x512 := Rect.unit (s := S512x512) ![0, 0] S512x512.size inb_S512x512_S512x512_0_0
abbrev rT : Rect S128x512 := Rect.unit (s := S128x512) ![0, 0] S128x512.size inb_S128x512_S128x512_0_0

/-- What the body leaves in an output block, of the input blocks: its one store, which covers the block. -/
def out0_7 (x0 : Vec F S512x1024 .f32) (x1 : Vec F S1x1024 .f32) (x2 : Vec F S1024x3968 .bf16) : Vec F S512x2048 .f32 :=
  View.canon [⟨rZ, k0_pay9 (k0_pay5 (View.ld x0 rX) (View.ld x1 rG) (View.ld x2 rW))⟩]
def out0_8 (x0 : Vec F S512x1024 .f32) (x1 : Vec F S1x1024 .f32) (x2 : Vec F S1024x3968 .bf16) : Vec F S512x128 .f32 :=
  View.canon [⟨rK, k0_pay10 (k0_pay5 (View.ld x0 rX) (View.ld x1 rG) (View.ld x2 rW))⟩]
def out0_9 (x0 : Vec F S512x1024 .f32) (x1 : Vec F S1x1024 .f32) (x2 : Vec F S1024x3968 .bf16) : Vec F S512x128 .f32 :=
  View.canon [⟨rK, k0_pay11 (k0_pay5 (View.ld x0 rX) (View.ld x1 rG) (View.ld x2 rW))⟩]
def out0_11 (x0 : Vec F S512x1024 .f32) (x1 : Vec F S1x1024 .f32) (x2 : Vec F S1024x3968 .bf16) : Vec F S512x512 .bf16 :=
  View.canon [⟨rQ, k0_pay7 (k0_pay6 (View.ld x0 rX) (View.ld x1 rG) (View.ld x2 rW))⟩]
def out0_12 (x0 : Vec F S512x1024 .f32) (x1 : Vec F S1x1024 .f32) (x2 : Vec F S1024x3968 .bf16) : Vec F S128x512 .f32 :=
  View.canon [⟨rT, k0_pay8 (k0_pay5 (View.ld x0 rX) (View.ld x1 rG) (View.ld x2 rW))⟩]

/-- The store covers the block. -/
theorem cover0_7 (p0 : Vec F S512x2048 .f32) (y : S512x2048.Idx) :
    ∃ pc ∈ ([⟨rZ, p0⟩] : List (View.Piece (Elt F) S512x2048 .f32)), y ∈ pc.1.set :=
  View.cover_of_tiled [⟨rZ, p0⟩] S512x2048.size (by rfl) y
theorem cover0_8 (p0 : Vec F S512x128 .f32) (y : S512x128.Idx) :
    ∃ pc ∈ ([⟨rK, p0⟩] : List (View.Piece (Elt F) S512x128 .f32)), y ∈ pc.1.set :=
  View.cover_of_tiled [⟨rK, p0⟩] S512x128.size (by rfl) y
theorem cover0_9 (p0 : Vec F S512x128 .f32) (y : S512x128.Idx) :
    ∃ pc ∈ ([⟨rK, p0⟩] : List (View.Piece (Elt F) S512x128 .f32)), y ∈ pc.1.set :=
  View.cover_of_tiled [⟨rK, p0⟩] S512x128.size (by rfl) y
theorem cover0_11 (p0 : Vec F S512x512 .bf16) (y : S512x512.Idx) :
    ∃ pc ∈ ([⟨rQ, p0⟩] : List (View.Piece (Elt F) S512x512 .bf16)), y ∈ pc.1.set :=
  View.cover_of_tiled [⟨rQ, p0⟩] S512x512.size (by rfl) y
theorem cover0_12 (p0 : Vec F S128x512 .f32) (y : S128x512.Idx) :
    ∃ pc ∈ ([⟨rT, p0⟩] : List (View.Piece (Elt F) S128x512 .f32)), y ∈ pc.1.set :=
  View.cover_of_tiled [⟨rT, p0⟩] S128x512.size (by rfl) y

/-! ## The body's triple -/

/-- The condition on which the body clears its working buffer's margin: the point is the first of a sequence. -/
abbrev cond0 (i : grid0.Coords) : Prop :=
  (let v1 := Scalar.select (Scalar.cmpi .eq 8#32 0#32) 1#32 8#32
   let v2 := Scalar.remsi (BitVec.ofNat 32 (i 0).val) v1
   Scalar.cmpi .ne (Scalar.extui (Scalar.cmpi .eq (Scalar.select (Scalar.andi (Scalar.xori (Scalar.cmpi .slt v2 0#32) (Scalar.cmpi .slt v1 0#32)) (Scalar.cmpi .ne v2 0#32)) (Scalar.addi v2 v1) v2) 0#32)) 0#32) = 1#1

set_option maxHeartbeats 0 in
/-- The body where the margin is cleared: from the inputs' blocks at their contents and every other buffer at anything, it
    runs to its return, the inputs' as they were, five outputs at the stated functions of them, the sixth and the working
    buffer at some contents. -/
theorem sound_pos (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S128x512 .f32) (harg13 : arg13.IsWhole) (arg14 : Memref sig .tc .vmem S8x544x512 .f32) (harg14 : arg14.IsWhole)
    (x0 : Vec F S512x1024 .f32) (x1 : Vec F S1x1024 .f32) (x2 : Vec F S1024x3968 .bf16) (x3 : Vec F S32x512 .f32) (x4 : Vec F S1x512 .f32) (x5 : Vec F S1x512 .f32) (x6 : Vec F S1x512 .f32) (hc0 : cond0 i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x1 x2) ∗ owns (c : Thread nD τ) arg10 fullShare (out0_9 x0 x1 x2) ∗ (∃ d, owns (c : Thread nD τ) arg11 fullShare d) ∗ owns (c : Thread nD τ) arg12 fullShare (out0_11 x0 x1 x2) ∗ owns (c : Thread nD τ) arg13 fullShare (out0_12 x0 x1 x2) ∗ (∃ d, owns (c : Thread nD τ) arg14 fullShare d)) -∗ K ⟨⟩))
      ⊢ wp frame (wpE (defs₀ (F := F)) Variants.none c none) E (cc0_in_proj_conv i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_in_proj_conv_eq_skeleton]; unfold cc0_in_proj_conv_skel
  simp only [k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _, _; isplitr; swap; · iexact H10
    ipureintro; rfl
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _, _; isplitr; swap; · iexact H13
  ipureintro; rfl

set_option maxHeartbeats 0 in
/-- The body where the margin is kept: from the inputs' blocks at their contents and every other buffer at anything, it
    runs to its return, the inputs' as they were, five outputs at the stated functions of them, the sixth and the working
    buffer at some contents. -/
theorem sound_neg (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S128x512 .f32) (harg13 : arg13.IsWhole) (arg14 : Memref sig .tc .vmem S8x544x512 .f32) (harg14 : arg14.IsWhole)
    (x0 : Vec F S512x1024 .f32) (x1 : Vec F S1x1024 .f32) (x2 : Vec F S1024x3968 .bf16) (x3 : Vec F S32x512 .f32) (x4 : Vec F S1x512 .f32) (x5 : Vec F S1x512 .f32) (x6 : Vec F S1x512 .f32) (hc0 : ¬ cond0 i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x1 x2) ∗ owns (c : Thread nD τ) arg10 fullShare (out0_9 x0 x1 x2) ∗ (∃ d, owns (c : Thread nD τ) arg11 fullShare d) ∗ owns (c : Thread nD τ) arg12 fullShare (out0_11 x0 x1 x2) ∗ owns (c : Thread nD τ) arg13 fullShare (out0_12 x0 x1 x2) ∗ (∃ d, owns (c : Thread nD τ) arg14 fullShare d)) -∗ K ⟨⟩))
      ⊢ wp frame (wpE (defs₀ (F := F)) Variants.none c none) E (cc0_in_proj_conv i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_in_proj_conv_eq_skeleton]; unfold cc0_in_proj_conv_skel
  simp only [k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _, _; isplitr; swap; · iexact H10
    ipureintro; rfl
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _, _; isplitr; swap; · iexact H13
  ipureintro; rfl

/-- The body at any point: both cases of the condition. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S128x512 .f32) (harg13 : arg13.IsWhole) (arg14 : Memref sig .tc .vmem S8x544x512 .f32) (harg14 : arg14.IsWhole)
    (x0 : Vec F S512x1024 .f32) (x1 : Vec F S1x1024 .f32) (x2 : Vec F S1024x3968 .bf16) (x3 : Vec F S32x512 .f32) (x4 : Vec F S1x512 .f32) (x5 : Vec F S1x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x1 x2) ∗ owns (c : Thread nD τ) arg10 fullShare (out0_9 x0 x1 x2) ∗ (∃ d, owns (c : Thread nD τ) arg11 fullShare d) ∗ owns (c : Thread nD τ) arg12 fullShare (out0_11 x0 x1 x2) ∗ owns (c : Thread nD τ) arg13 fullShare (out0_12 x0 x1 x2) ∗ (∃ d, owns (c : Thread nD τ) arg14 fullShare d)) -∗ K ⟨⟩))
      ⊢ wp frame (wpE (defs₀ (F := F)) Variants.none c none) E (cc0_in_proj_conv i arg1 harg1 arg2 harg2 arg3 harg3 arg4 harg4 arg5 harg5 arg6 harg6 arg7 harg7 arg8 harg8 arg9 harg9 arg10 harg10 arg11 harg11 arg12 harg12 arg13 harg13 arg14 harg14) K := by
  by_cases hc0 : cond0 i
  · exact sound_pos c E i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 hc0 K
  · exact sound_neg c E i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 hc0 K

/-! ## The pipeline's proof data -/

/-- The convolution's output window, of which nothing is said. -/
def forgets0 : Fin 13 → Bool := fun w => w == 10

/-- The proof data on core `c`: the arrays as the region finds them; after the body each input's buffer at its block and
    each output's at the stated function of the input blocks, the convolution's unnamed; the invariant the scoped rest
    and the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t)
    | ⟨8, _⟩ => out0_8 (iblk m c 0 t) (iblk m c 1 t) (iblk m c 2 t)
    | ⟨9, _⟩ => out0_9 (iblk m c 0 t) (iblk m c 1 t) (iblk m c 2 t)
    | ⟨10, _⟩ => Pipeline.Dat.unnamed (cfg := cfg0) 10 t
    | ⟨11, _⟩ => out0_11 (iblk m c 0 t) (iblk m c 1 t) (iblk m c 2 t)
    | ⟨12, _⟩ => out0_12 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) := by dsimp only [dats]
theorem after0_8 (c : Dev nD) (t : Fin cfg0.N) : (dats m 0 c).after 8 t = out0_8 (iblk m c 0 t) (iblk m c 1 t) (iblk m c 2 t) := by dsimp only [dats]
theorem after0_9 (c : Dev nD) (t : Fin cfg0.N) : (dats m 0 c).after 9 t = out0_9 (iblk m c 0 t) (iblk m c 1 t) (iblk m c 2 t) := by dsimp only [dats]
theorem after0_11 (c : Dev nD) (t : Fin cfg0.N) : (dats m 0 c).after 11 t = out0_11 (iblk m c 0 t) (iblk m c 1 t) (iblk m c 2 t) := by dsimp only [dats]
theorem after0_12 (c : Dev nD) (t : Fin cfg0.N) : (dats m 0 c).after 12 t = out0_12 (iblk m c 0 t) (iblk m c 1 t) (iblk m c 2 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- The working buffer, whole. -/
abbrev scM : Memref sig .tc .vmem S8x544x512 .f32 := Memref.whole cc0_scratch0

/-- The invariant between the points: the working buffer at some contents and the generator register at some state. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ owns (c : Thread nD τ) (st0_11 t) fullShare ((dats m 0 c).after 11 t)
    ∗ owns (c : Thread nD τ) (st0_12 t) fullShare ((dats m 0 c).after 12 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9, after0_11, after0_12]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS]; · iexact HS
  iintro ⟨H0, H1, H2, H3, H4, H5, H6, H7, H8, H9, H10, H11, H12, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation with the convolution's output forgotten: the triple restated. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run -/

-- the run's implicit arguments are found by unifying its conclusion with this one
set_option backward.isDefEq.respectTransparency.types false in
set_option maxHeartbeats 800000 in
/-- Every weakly fair execution terminates, every final state has every array of the pipeline at what the proof data
    says — the convolution's output apart —, every other unscoped buffer as the region found it, and every semaphore
    counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Proof.InRun

end
-- ==== Proof.InValue.lean ====
/- The arrays the input projection's kernel leaves, the convolution's apart, are the reference's results. -/
module

public import proofs.«01_k».proof.Proof.InPure
public import proofs.«01_k».proof.Proof.InRun
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proof.In

open Idealize.ShloMosaic Idealize.ShloMosaic.TcCoe Idealize.SL.Sem
open Idealize.ShloMosaic.Pipeline (Dat)
open Cert.InKernelIdeal Cert.InKernelIdeal.Gen Cert.Proof.InRun Cert.Proof.Rows

variable (m : (ℓ : Loc nD τ sig) → Buf (Elt Ideal) ℓ)

/-- The arguments the projection reads: the rows, the gain and the weights. -/
abbrev xA (c : Dev nD) : FVec Ideal S8x4096x1024 .f32 := show FVec Ideal S8x4096x1024 .f32 from m ((c : Thread nD τ).loc main_arg0)
abbrev gA (c : Dev nD) : FVec Ideal S1024 .f32 := show FVec Ideal S1024 .f32 from m ((c : Thread nD τ).loc main_arg1)
abbrev wA (c : Dev nD) : FVec Ideal S1024x6936 .f32 := show FVec Ideal S1024x6936 .f32 from m ((c : Thread nD τ).loc main_arg2)

/-! ## The weights in the kernel's order -/

set_option maxHeartbeats 1000000 in
/-- The queries' columns, scaled. -/
theorem ent_q (c : Dev nD) (k : Fin 1024) (x : Fin 512) :
    (show FVec Ideal S1024x3968 .bf16 from V m c main_v26) (ix2 k ⟨1024 + x.val, by omega⟩) = wA m c (ix2 k ⟨x.val, by omega⟩) * qscale := by
  simp only [V]
  after_reads_simp
  refine Eq.trans (ValueIdx.truncf_apply _ _ _) ?_
  refine Eq.trans (concatenate_apply_piece (t := S1024x3968) 1 _ _ _ 2 (by show 2 < 15; decide) S1024x512 _ rfl rfl 1024 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The gates' columns. -/
theorem ent_gate (c : Dev nD) (k : Fin 1024) (x : Fin 24) :
    (show FVec Ideal S1024x3968 .bf16 from V m c main_v26) (ix2 k ⟨1536 + x.val, by omega⟩) = wA m c (ix2 k ⟨1280 + x.val, by omega⟩) := by
  simp only [V]
  after_reads_simp
  refine Eq.trans (ValueIdx.truncf_apply _ _ _) ?_
  refine Eq.trans (concatenate_apply_piece (t := S1024x3968) 1 _ _ _ 3 (by show 3 < 15; decide) S1024x24 _ rfl rfl 1536 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The columns of zeros. -/
theorem ent_zero (c : Dev nD) (k : Fin 1024) (x : Fin 104) :
    (show FVec Ideal S1024x3968 .bf16 from V m c main_v26) (ix2 k ⟨1560 + x.val, by omega⟩) = 0 := by
  simp only [V]
  after_reads_simp
  refine Eq.trans (ValueIdx.truncf_apply _ _ _) ?_
  refine Eq.trans (concatenate_apply_piece (t := S1024x3968) 1 _ _ _ 4 (by show 4 < 15; decide) S1024x104 _ rfl rfl 1560 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The retention's values' columns. -/
theorem ent_vr (c : Dev nD) (k : Fin 1024) (x : Fin 512) :
    (show FVec Ideal S1024x3968 .bf16 from V m c main_v26) (ix2 k ⟨1664 + x.val, by omega⟩) = wA m c (ix2 k ⟨1816 + x.val, by omega⟩) := by
  simp only [V]
  after_reads_simp
  refine Eq.trans (ValueIdx.truncf_apply _ _ _) ?_
  refine Eq.trans (concatenate_apply_piece (t := S1024x3968) 1 _ _ _ 5 (by show 5 < 15; decide) S1024x512 _ rfl rfl 1664 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The retention's gates' columns. -/
theorem ent_gr (c : Dev nD) (k : Fin 1024) (x : Fin 512) :
    (show FVec Ideal S1024x3968 .bf16 from V m c main_v26) (ix2 k ⟨2176 + x.val, by omega⟩) = wA m c (ix2 k ⟨2328 + x.val, by omega⟩) := by
  simp only [V]
  after_reads_simp
  refine Eq.trans (ValueIdx.truncf_apply _ _ _) ?_
  refine Eq.trans (concatenate_apply_piece (t := S1024x3968) 1 _ _ _ 6 (by show 6 < 15; decide) S1024x512 _ rfl rfl 2176 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The retention's queries' columns, halves-major. -/
theorem ent_qr (c : Dev nD) (k : Fin 1024) (x : Fin 256) :
    (show FVec Ideal S1024x3968 .bf16 from V m c main_v26) (ix2 k ⟨2688 + x.val, by omega⟩) = wA m c (ix2 k (zcol 1304 (by decide) x)) := by
  simp only [V]
  after_reads_simp
  refine Eq.trans (ValueIdx.truncf_apply _ _ _) ?_
  refine Eq.trans (concatenate_apply_piece (t := S1024x3968) 1 _ _ _ 7 (by show 7 < 15; decide) S1024x256 _ rfl rfl 2688 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The retention's keys' columns, halves-major and scaled. -/
theorem ent_kr (c : Dev nD) (k : Fin 1024) (x : Fin 256) :
    (show FVec Ideal S1024x3968 .bf16 from V m c main_v26) (ix2 k ⟨2944 + x.val, by omega⟩) = wA m c (ix2 k (zcol 1560 (by decide) x)) * eighth := by
  simp only [V]
  after_reads_simp
  refine Eq.trans (ValueIdx.truncf_apply _ _ _) ?_
  refine Eq.trans (concatenate_apply_piece (t := S1024x3968) 1 _ _ _ 8 (by show 8 < 15; decide) S1024x256 _ rfl rfl 2944 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The selected keys' columns. -/
theorem ent_ks (c : Dev nD) (k : Fin 1024) (x : Fin 128) :
    (show FVec Ideal S1024x3968 .bf16 from V m c main_v26) (ix2 k ⟨3200 + x.val, by omega⟩) = wA m c (ix2 k ⟨768 + x.val, by omega⟩) := by
  simp only [V]
  after_reads_simp
  refine Eq.trans (ValueIdx.truncf_apply _ _ _) ?_
  refine Eq.trans (concatenate_apply_piece (t := S1024x3968) 1 _ _ _ 9 (by show 9 < 15; decide) S1024x128 _ rfl rfl 3200 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The selected values' columns. -/
theorem ent_vs (c : Dev nD) (k : Fin 1024) (x : Fin 128) :
    (show FVec Ideal S1024x3968 .bf16 from V m c main_v26) (ix2 k ⟨3328 + x.val, by omega⟩) = wA m c (ix2 k ⟨896 + x.val, by omega⟩) := by
  simp only [V]
  after_reads_simp
  refine Eq.trans (ValueIdx.truncf_apply _ _ _) ?_
  refine Eq.trans (concatenate_apply_piece (t := S1024x3968) 1 _ _ _ 10 (by show 10 < 15; decide) S1024x128 _ rfl rfl 3328 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The window's keys' columns. -/
theorem ent_kw (c : Dev nD) (k : Fin 1024) (x : Fin 128) :
    (show FVec Ideal S1024x3968 .bf16 from V m c main_v26) (ix2 k ⟨3456 + x.val, by omega⟩) = wA m c (ix2 k ⟨1024 + x.val, by omega⟩) := by
  simp only [V]
  after_reads_simp
  refine Eq.trans (ValueIdx.truncf_apply _ _ _) ?_
  refine Eq.trans (concatenate_apply_piece (t := S1024x3968) 1 _ _ _ 11 (by show 11 < 15; decide) S1024x128 _ rfl rfl 3456 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The window's values' columns. -/
theorem ent_vw (c : Dev nD) (k : Fin 1024) (x : Fin 128) :
    (show FVec Ideal S1024x3968 .bf16 from V m c main_v26) (ix2 k ⟨3584 + x.val, by omega⟩) = wA m c (ix2 k ⟨1152 + x.val, by omega⟩) := by
  simp only [V]
  after_reads_simp
  refine Eq.trans (ValueIdx.truncf_apply _ _ _) ?_
  refine Eq.trans (concatenate_apply_piece (t := S1024x3968) 1 _ _ _ 12 (by show 12 < 15; decide) S1024x128 _ rfl rfl 3584 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The compressed keys' columns. -/
theorem ent_kc (c : Dev nD) (k : Fin 1024) (x : Fin 128) :
    (show FVec Ideal S1024x3968 .bf16 from V m c main_v26) (ix2 k ⟨3712 + x.val, by omega⟩) = wA m c (ix2 k ⟨512 + x.val, by omega⟩) := by
  simp only [V]
  after_reads_simp
  refine Eq.trans (ValueIdx.truncf_apply _ _ _) ?_
  refine Eq.trans (concatenate_apply_piece (t := S1024x3968) 1 _ _ _ 13 (by show 13 < 15; decide) S1024x128 _ rfl rfl 3712 rfl (ix2 k x) ?_ ?_) ?_
  · intro a ha; fin_cases a <;> first | rfl | exact absurd rfl ha
  · rfl
  simp only [Matrix.cons_val]
  after_reads_simp
  pointwise [zcol, eighth, qscale]

set_option maxHeartbeats 1000000 in
/-- The compressed values' columns. -/
theorem ent_vc (c : Dev nD) (k : Fin 1024) (x : Fin 128) :
    (show FVec Ideal S1024x3968 .bf16 from V m c main_v26) (ix2 k ⟨3840 + x.val, by omega⟩) = wA m c (ix2 k ⟨640 + x.val, by omega⟩) := by
  simp only [V]
  after_reads_simp
  refine Eq.trans (ValueIdx.truncf_apply _ _ _) ?_
  refine Eq.trans (concatenate_apply_piece (t := S1024x3968) 1 _ _ _ 14 (by show 14 < 15; decide) S1024x128 _ rfl rfl 3840 rfl (ix2 k x) ?_ ?_) ?_
  · intro a ha; fin_cases a <;> first | rfl | exact absurd rfl ha
  · rfl
  simp only [Matrix.cons_val]
  after_reads_simp
  pointwise [zcol, eighth, qscale]

/-! ## The blocks -/

/-- The windows' block indices: the rows move with the grid point, everything else read is whole. -/
theorem idx : ∀ t : Fin cfg0.N, win0_0.index t = ![t.val, 0] ∧ win0_1.index t = ![0, 0] ∧ win0_2.index t = ![0, 0]
    ∧ win0_7.index t = ![t.val, 0] ∧ win0_8.index t = ![t.val, 0] ∧ win0_9.index t = ![t.val, 0]
    ∧ win0_11.index t = ![0, t.val] ∧ win0_12.index t = ![0, t.val] :=
  (by decide +kernel : ∀ t : Fin grid0.N, _)

/-- A row of a point's block, as a row of the flattened array. -/
abbrev row (t : Fin cfg0.N) (r : Fin 512) : Fin 32768 := ⟨t.val * 512 + r.val, by have : t.val < 64 := t.isLt; omega⟩

theorem blk0 (c : Dev nD) (t : Fin cfg0.N) (r : Fin 512) (k : Fin 1024) :
    (iblk m c 0 t : FVec Ideal S512x1024 .f32) (ix2 r k)
      = xA m c (ix3 ⟨(row t r).val / 4096, by have : t.val < 64 := t.isLt; show (t.val * 512 + r.val) / 4096 < 8; omega⟩ ⟨(row t r).val % 4096, by omega⟩ k) := by
  blk_simp [iblk]
  entry_read
  pointwise
  blk_ext [idx t]

theorem blk1 (c : Dev nD) (t : Fin cfg0.N) (k : Fin 1024) :
    (iblk m c 1 t : FVec Ideal S1x1024 .f32) (ix2 0 k) = gA m c (ix1 k) := by
  blk_simp [iblk]
  entry_read
  pointwise
  blk_ext [idx t]

theorem blk2 (c : Dev nD) (t : Fin cfg0.N) (k : Fin 1024) (J : Fin 3968) :
    (iblk m c 2 t : FVec Ideal S1024x3968 .bf16) (ix2 k J) = (show FVec Ideal S1024x3968 .bf16 from V m c main_v26) (ix2 k J) := by
  blk_simp [iblk]
  blk_ext [idx t]

/-- A column of the projection at a row of a point's block, of the weights in the kernel's order. -/
def col (c : Dev nD) (R : Fin 32768) (J : Fin 2944) : EReal :=
  proj (fun k => xA m c (ix3 ⟨R.val / 4096, by omega⟩ ⟨R.val % 4096, by omega⟩ k)) (fun k => gA m c (ix1 k))
    (fun k => (show FVec Ideal S1024x3968 .bf16 from V m c main_v26) (ix2 k ⟨1024 + J.val, by omega⟩))

theorem acc_at (c : Dev nD) (t : Fin cfg0.N) (A : FVec Ideal S1024x2944 .bf16)
    (hA : ∀ (k : Fin 1024) (J : Fin 2944), A (ix2 k J) = (iblk m c 2 t : FVec Ideal S1024x3968 .bf16) (ix2 k ⟨1024 + J.val, by omega⟩))
    (r : Fin 512) (J : Fin 2944) :
    (k0_pay5 (F := Ideal) (iblk m c 0 t) (iblk m c 1 t) A : FVec Ideal S512x2944 .f32) (ix2 r J) = col m c (row t r) J := by
  rw [pay5_at]
  unfold col
  simp only [hA, blk0, blk1, blk2]

/-! ## What a point writes -/

theorem point7 (c : Dev nD) (t : Fin cfg0.N) (r : Fin 512) (j : Fin 2048) :
    (out0_7 (iblk m c 0 t) (iblk m c 1 t) (iblk m c 2 t) : FVec Ideal S512x2048 .f32) (ix2 r j) = col m c (row t r) ⟨640 + j.val, by omega⟩ := by
  frame_out
  rw [pay9_at]
  refine acc_at m c t _ ?_ r _
  intro a b; pointwise

theorem point8 (c : Dev nD) (t : Fin cfg0.N) (r : Fin 512) (j : Fin 128) :
    (out0_8 (iblk m c 0 t) (iblk m c 1 t) (iblk m c 2 t) : FVec Ideal S512x128 .f32) (ix2 r j) = col m c (row t r) ⟨2688 + j.val, by omega⟩ := by
  frame_out
  rw [pay10_at]
  refine acc_at m c t _ ?_ r _
  intro a b; pointwise

theorem point9 (c : Dev nD) (t : Fin cfg0.N) (r : Fin 512) (j : Fin 128) :
    (out0_9 (iblk m c 0 t) (iblk m c 1 t) (iblk m c 2 t) : FVec Ideal S512x128 .f32) (ix2 r j) = col m c (row t r) ⟨2816 + j.val, by omega⟩ := by
  frame_out
  rw [pay11_at]
  refine acc_at m c t _ ?_ r _
  intro a b; pointwise

theorem point11 (c : Dev nD) (t : Fin cfg0.N) (j : Fin 512) (r : Fin 512) :
    (out0_11 (iblk m c 0 t) (iblk m c 1 t) (iblk m c 2 t) : FVec Ideal S512x512 .bf16) (ix2 j r) = col m c (row t r) ⟨j.val, by omega⟩ := by
  frame_out
  rw [pay7_at]
  refine acc_at m c t _ ?_ r _
  intro a b; pointwise

theorem point12 (c : Dev nD) (t : Fin cfg0.N) (j : Fin 128) (r : Fin 512) :
    (out0_12 (iblk m c 0 t) (iblk m c 1 t) (iblk m c 2 t) : FVec Ideal S128x512 .f32) (ix2 j r) = col m c (row t r) ⟨512 + j.val, by omega⟩ := by
  frame_out
  rw [pay8_at]
  refine acc_at m c t _ ?_ r _
  intro a b; pointwise

/-! ## The columns by name -/

theorem col_q (c : Dev nD) (R : Fin 32768) (x : Fin 512) :
    col m c R ⟨0 + x.val, by omega⟩ = zr (xA m c) (gA m c) (wA m c) R ⟨x.val, by omega⟩ * qscale := by
  unfold col
  rw [show (fun k => (show FVec Ideal S1024x3968 .bf16 from V m c main_v26) (ix2 k ⟨1024 + (0 + x.val), by omega⟩)) = _ from funext fun k => (congrArg (fun J => (show FVec Ideal S1024x3968 .bf16 from V m c main_v26) (ix2 k J)) (Fin.ext (by show 1024 + (0 + x.val) = 1024 + x.val; omega))).trans (ent_q m c k x)]
  exact proj_scale _ _ _ _ qscale_pos

theorem col_gate (c : Dev nD) (R : Fin 32768) (x : Fin 24) :
    col m c R ⟨512 + x.val, by omega⟩ = zr (xA m c) (gA m c) (wA m c) R ⟨1280 + x.val, by omega⟩ := by
  unfold col
  rw [show (fun k => (show FVec Ideal S1024x3968 .bf16 from V m c main_v26) (ix2 k ⟨1024 + (512 + x.val), by omega⟩)) = _ from funext fun k => (congrArg (fun J => (show FVec Ideal S1024x3968 .bf16 from V m c main_v26) (ix2 k J)) (Fin.ext (by show 1024 + (512 + x.val) = 1536 + x.val; omega))).trans (ent_gate m c k x)]
  rfl

theorem col_zero (c : Dev nD) (R : Fin 32768) (x : Fin 104) :
    col m c R ⟨536 + x.val, by omega⟩ = 0 := by
  unfold col
  rw [show (fun k => (show FVec Ideal S1024x3968 .bf16 from V m c main_v26) (ix2 k ⟨1024 + (536 + x.val), by omega⟩)) = _ from funext fun k => (congrArg (fun J => (show FVec Ideal S1024x3968 .bf16 from V m c main_v26) (ix2 k J)) (Fin.ext (by show 1024 + (536 + x.val) = 1560 + x.val; omega))).trans (ent_zero m c k x)]
  exact proj_zero _ _

theorem col_vr (c : Dev nD) (R : Fin 32768) (x : Fin 512) :
    col m c R ⟨640 + x.val, by omega⟩ = zr (xA m c) (gA m c) (wA m c) R ⟨1816 + x.val, by omega⟩ := by
  unfold col
  rw [show (fun k => (show FVec Ideal S1024x3968 .bf16 from V m c main_v26) (ix2 k ⟨1024 + (640 + x.val), by omega⟩)) = _ from funext fun k => (congrArg (fun J => (show FVec Ideal S1024x3968 .bf16 from V m c main_v26) (ix2 k J)) (Fin.ext (by show 1024 + (640 + x.val) = 1664 + x.val; omega))).trans (ent_vr m c k x)]
  rfl

theorem col_gr (c : Dev nD) (R : Fin 32768) (x : Fin 512) :
    col m c R ⟨1152 + x.val, by omega⟩ = zr (xA m c) (gA m c) (wA m c) R ⟨2328 + x.val, by omega⟩ := by
  unfold col
  rw [show (fun k => (show FVec Ideal S1024x3968 .bf16 from V m c main_v26) (ix2 k ⟨1024 + (1152 + x.val), by omega⟩)) = _ from funext fun k => (congrArg (fun J => (show FVec Ideal S1024x3968 .bf16 from V m c main_v26) (ix2 k J)) (Fin.ext (by show 1024 + (1152 + x.val) = 2176 + x.val; omega))).trans (ent_gr m c k x)]
  rfl

theorem col_qr (c : Dev nD) (R : Fin 32768) (x : Fin 256) :
    col m c R ⟨1664 + x.val, by omega⟩ = zr (xA m c) (gA m c) (wA m c) R (zcol 1304 (by decide) x) := by
  unfold col
  rw [show (fun k => (show FVec Ideal S1024x3968 .bf16 from V m c main_v26) (ix2 k ⟨1024 + (1664 + x.val), by omega⟩)) = _ from funext fun k => (congrArg (fun J => (show FVec Ideal S1024x3968 .bf16 from V m c main_v26) (ix2 k J)) (Fin.ext (by show 1024 + (1664 + x.val) = 2688 + x.val; omega))).trans (ent_qr m c k x)]
  rfl

theorem col_kr (c : Dev nD) (R : Fin 32768) (x : Fin 256) :
    col m c R ⟨1920 + x.val, by omega⟩ = zr (xA m c) (gA m c) (wA m c) R (zcol 1560 (by decide) x) * eighth := by
  unfold col
  rw [show (fun k => (show FVec Ideal S1024x3968 .bf16 from V m c main_v26) (ix2 k ⟨1024 + (1920 + x.val), by omega⟩)) = _ from funext fun k => (congrArg (fun J => (show FVec Ideal S1024x3968 .bf16 from V m c main_v26) (ix2 k J)) (Fin.ext (by show 1024 + (1920 + x.val) = 2944 + x.val; omega))).trans (ent_kr m c k x)]
  exact proj_scale _ _ _ _ eighth_pos

theorem col_ks (c : Dev nD) (R : Fin 32768) (x : Fin 128) :
    col m c R ⟨2176 + x.val, by omega⟩ = zr (xA m c) (gA m c) (wA m c) R ⟨768 + x.val, by omega⟩ := by
  unfold col
  rw [show (fun k => (show FVec Ideal S1024x3968 .bf16 from V m c main_v26) (ix2 k ⟨1024 + (2176 + x.val), by omega⟩)) = _ from funext fun k => (congrArg (fun J => (show FVec Ideal S1024x3968 .bf16 from V m c main_v26) (ix2 k J)) (Fin.ext (by show 1024 + (2176 + x.val) = 3200 + x.val; omega))).trans (ent_ks m c k x)]
  rfl

theorem col_vs (c : Dev nD) (R : Fin 32768) (x : Fin 128) :
    col m c R ⟨2304 + x.val, by omega⟩ = zr (xA m c) (gA m c) (wA m c) R ⟨896 + x.val, by omega⟩ := by
  unfold col
  rw [show (fun k => (show FVec Ideal S1024x3968 .bf16 from V m c main_v26) (ix2 k ⟨1024 + (2304 + x.val), by omega⟩)) = _ from funext fun k => (congrArg (fun J => (show FVec Ideal S1024x3968 .bf16 from V m c main_v26) (ix2 k J)) (Fin.ext (by show 1024 + (2304 + x.val) = 3328 + x.val; omega))).trans (ent_vs m c k x)]
  rfl

theorem col_kw (c : Dev nD) (R : Fin 32768) (x : Fin 128) :
    col m c R ⟨2432 + x.val, by omega⟩ = zr (xA m c) (gA m c) (wA m c) R ⟨1024 + x.val, by omega⟩ := by
  unfold col
  rw [show (fun k => (show FVec Ideal S1024x3968 .bf16 from V m c main_v26) (ix2 k ⟨1024 + (2432 + x.val), by omega⟩)) = _ from funext fun k => (congrArg (fun J => (show FVec Ideal S1024x3968 .bf16 from V m c main_v26) (ix2 k J)) (Fin.ext (by show 1024 + (2432 + x.val) = 3456 + x.val; omega))).trans (ent_kw m c k x)]
  rfl

theorem col_vw (c : Dev nD) (R : Fin 32768) (x : Fin 128) :
    col m c R ⟨2560 + x.val, by omega⟩ = zr (xA m c) (gA m c) (wA m c) R ⟨1152 + x.val, by omega⟩ := by
  unfold col
  rw [show (fun k => (show FVec Ideal S1024x3968 .bf16 from V m c main_v26) (ix2 k ⟨1024 + (2560 + x.val), by omega⟩)) = _ from funext fun k => (congrArg (fun J => (show FVec Ideal S1024x3968 .bf16 from V m c main_v26) (ix2 k J)) (Fin.ext (by show 1024 + (2560 + x.val) = 3584 + x.val; omega))).trans (ent_vw m c k x)]
  rfl

theorem col_kc (c : Dev nD) (R : Fin 32768) (x : Fin 128) :
    col m c R ⟨2688 + x.val, by omega⟩ = zr (xA m c) (gA m c) (wA m c) R ⟨512 + x.val, by omega⟩ := by
  unfold col
  rw [show (fun k => (show FVec Ideal S1024x3968 .bf16 from V m c main_v26) (ix2 k ⟨1024 + (2688 + x.val), by omega⟩)) = _ from funext fun k => (congrArg (fun J => (show FVec Ideal S1024x3968 .bf16 from V m c main_v26) (ix2 k J)) (Fin.ext (by show 1024 + (2688 + x.val) = 3712 + x.val; omega))).trans (ent_kc m c k x)]
  rfl

theorem col_vc (c : Dev nD) (R : Fin 32768) (x : Fin 128) :
    col m c R ⟨2816 + x.val, by omega⟩ = zr (xA m c) (gA m c) (wA m c) R ⟨640 + x.val, by omega⟩ := by
  unfold col
  rw [show (fun k => (show FVec Ideal S1024x3968 .bf16 from V m c main_v26) (ix2 k ⟨1024 + (2816 + x.val), by omega⟩)) = _ from funext fun k => (congrArg (fun J => (show FVec Ideal S1024x3968 .bf16 from V m c main_v26) (ix2 k J)) (Fin.ext (by show 1024 + (2816 + x.val) = 3840 + x.val; omega))).trans (ent_vc m c k x)]
  rfl

/-! ## The arrays -/

open Cert.InRefIdeal.Read (val_main_v38 val_main_v16 val_main_v17 val_main_v42 val_main_v44 val_main_v45)

/-- The columns of the retention and of the selected and window attention, at a row. -/
theorem z_at (c : Dev nD) (R : Fin 32768) (j : Fin 2048) : col m c R ⟨640 + j.val, by omega⟩
    = (val_main_v38 (F := Ideal) (xA m c) (gA m c) (wA m c) : FVec Ideal S32768x2048 .f32) (ix2 R j) := by
  by_cases h_vr : j.val < 512
  · obtain ⟨x, hx⟩ : ∃ x : Fin 512, j.val = 0 + x.val := ⟨⟨j.val - 0, by omega⟩, by show j.val = 0 + (j.val - 0); omega⟩
    rw [show j = ⟨0 + x.val, by have := x.isLt; omega⟩ from Fin.ext hx]
    refine Eq.trans ?_ ((col_vr m c R x).trans (v38_v (xA m c) (gA m c) (wA m c) R x).symm)
    exact congrArg (col m c R) (Fin.ext (by show 640 + (0 + x.val) = 640 + x.val; omega))
  by_cases h_gr : j.val < 1024
  · obtain ⟨x, hx⟩ : ∃ x : Fin 512, j.val = 512 + x.val := ⟨⟨j.val - 512, by omega⟩, by show j.val = 512 + (j.val - 512); omega⟩
    rw [show j = ⟨512 + x.val, by have := x.isLt; omega⟩ from Fin.ext hx]
    refine Eq.trans ?_ ((col_gr m c R x).trans (v38_g (xA m c) (gA m c) (wA m c) R x).symm)
    exact congrArg (col m c R) (Fin.ext (by show 640 + (512 + x.val) = 1152 + x.val; omega))
  by_cases h_qr : j.val < 1280
  · obtain ⟨x, hx⟩ : ∃ x : Fin 256, j.val = 1024 + x.val := ⟨⟨j.val - 1024, by omega⟩, by show j.val = 1024 + (j.val - 1024); omega⟩
    rw [show j = ⟨1024 + x.val, by have := x.isLt; omega⟩ from Fin.ext hx]
    refine Eq.trans ?_ ((col_qr m c R x).trans (v38_q (xA m c) (gA m c) (wA m c) R x).symm)
    exact congrArg (col m c R) (Fin.ext (by show 640 + (1024 + x.val) = 1664 + x.val; omega))
  by_cases h_kr : j.val < 1536
  · obtain ⟨x, hx⟩ : ∃ x : Fin 256, j.val = 1280 + x.val := ⟨⟨j.val - 1280, by omega⟩, by show j.val = 1280 + (j.val - 1280); omega⟩
    rw [show j = ⟨1280 + x.val, by have := x.isLt; omega⟩ from Fin.ext hx]
    refine Eq.trans ?_ ((col_kr m c R x).trans (v38_k (xA m c) (gA m c) (wA m c) R x).symm)
    exact congrArg (col m c R) (Fin.ext (by show 640 + (1280 + x.val) = 1920 + x.val; omega))
  by_cases h_ks : j.val < 1664
  · obtain ⟨x, hx⟩ : ∃ x : Fin 128, j.val = 1536 + x.val := ⟨⟨j.val - 1536, by omega⟩, by show j.val = 1536 + (j.val - 1536); omega⟩
    rw [show j = ⟨1536 + x.val, by have := x.isLt; omega⟩ from Fin.ext hx]
    refine Eq.trans ?_ ((col_ks m c R x).trans (v38_ks (xA m c) (gA m c) (wA m c) R x).symm)
    exact congrArg (col m c R) (Fin.ext (by show 640 + (1536 + x.val) = 2176 + x.val; omega))
  by_cases h_vs : j.val < 1792
  · obtain ⟨x, hx⟩ : ∃ x : Fin 128, j.val = 1664 + x.val := ⟨⟨j.val - 1664, by omega⟩, by show j.val = 1664 + (j.val - 1664); omega⟩
    rw [show j = ⟨1664 + x.val, by have := x.isLt; omega⟩ from Fin.ext hx]
    refine Eq.trans ?_ ((col_vs m c R x).trans (v38_vs (xA m c) (gA m c) (wA m c) R x).symm)
    exact congrArg (col m c R) (Fin.ext (by show 640 + (1664 + x.val) = 2304 + x.val; omega))
  by_cases h_kw : j.val < 1920
  · obtain ⟨x, hx⟩ : ∃ x : Fin 128, j.val = 1792 + x.val := ⟨⟨j.val - 1792, by omega⟩, by show j.val = 1792 + (j.val - 1792); omega⟩
    rw [show j = ⟨1792 + x.val, by have := x.isLt; omega⟩ from Fin.ext hx]
    refine Eq.trans ?_ ((col_kw m c R x).trans (v38_kw (xA m c) (gA m c) (wA m c) R x).symm)
    exact congrArg (col m c R) (Fin.ext (by show 640 + (1792 + x.val) = 2432 + x.val; omega))
  by_cases h_vw : j.val < 2048
  · obtain ⟨x, hx⟩ : ∃ x : Fin 128, j.val = 1920 + x.val := ⟨⟨j.val - 1920, by omega⟩, by show j.val = 1920 + (j.val - 1920); omega⟩
    rw [show j = ⟨1920 + x.val, by have := x.isLt; omega⟩ from Fin.ext hx]
    refine Eq.trans ?_ ((col_vw m c R x).trans (v38_vw (xA m c) (gA m c) (wA m c) R x).symm)
    exact congrArg (col m c R) (Fin.ext (by show 640 + (1920 + x.val) = 2560 + x.val; omega))
  omega

/-- The gates and the zeros after them, at a row. -/
theorem g_at (c : Dev nD) (R : Fin 32768) (j : Fin 128) : col m c R ⟨512 + j.val, by omega⟩
    = (val_main_v44 (F := Ideal) (xA m c) (gA m c) (wA m c) : FVec Ideal Cert.InRefIdeal.S32768x128 .f32) (ix2 R j) := by
  by_cases h_gate : j.val < 24
  · obtain ⟨x, hx⟩ : ∃ x : Fin 24, j.val = 0 + x.val := ⟨⟨j.val - 0, by omega⟩, by show j.val = 0 + (j.val - 0); omega⟩
    rw [show j = ⟨0 + x.val, by have := x.isLt; omega⟩ from Fin.ext hx]
    refine Eq.trans ?_ ((col_gate m c R x).trans (v44_g (xA m c) (gA m c) (wA m c) R x).symm)
    exact congrArg (col m c R) (Fin.ext (by show 512 + (0 + x.val) = 512 + x.val; omega))
  by_cases h_zero : j.val < 128
  · obtain ⟨x, hx⟩ : ∃ x : Fin 104, j.val = 24 + x.val := ⟨⟨j.val - 24, by omega⟩, by show j.val = 24 + (j.val - 24); omega⟩
    rw [show j = ⟨24 + x.val, by have := x.isLt; omega⟩ from Fin.ext hx]
    refine Eq.trans ?_ ((col_zero m c R x).trans (v44_0 (xA m c) (gA m c) (wA m c) R x).symm)
    exact congrArg (col m c R) (Fin.ext (by show 512 + (24 + x.val) = 536 + x.val; omega))
  omega

theorem final7 (c : Dev nD) : (dats m 0 c).arrAt 7 (cfgs 0).N
    = (val_main_v38 (F := Ideal) (m ((c : Thread nD τ).loc main_arg0)) (m ((c : Thread nD τ).loc main_arg1)) (m ((c : Thread nD τ).loc main_arg2)) : FVec Ideal S32768x2048 .f32) := by
  refine (dats m 0 c).arrAt_eq_of_covers 7 _ (by decide +kernel) fun t _ y => ?_
  blk_simp
  rw [after0_7]
  idx_vars y
  refine (point7 m c t y0 y1).trans ?_
  refine Eq.trans (z_at m c (row t y0) y1) ?_
  refine congrArg (val_main_v38 (F := Ideal) _ _ _) ?_
  blk_ext [idx t]

theorem final8 (c : Dev nD) : (dats m 0 c).arrAt 8 (cfgs 0).N
    = (val_main_v16 (F := Ideal) (m ((c : Thread nD τ).loc main_arg0)) (m ((c : Thread nD τ).loc main_arg1)) (m ((c : Thread nD τ).loc main_arg2)) : FVec Ideal S32768x128 .f32) := by
  refine (dats m 0 c).arrAt_eq_of_covers 8 _ (by decide +kernel) fun t _ y => ?_
  blk_simp
  rw [after0_8]
  idx_vars y
  refine (point8 m c t y0 y1).trans ?_
  refine Eq.trans ((col_kc m c (row t y0) y1).trans (v16_at _ _ _ (row t y0) y1).symm) ?_
  refine congrArg (val_main_v16 (F := Ideal) _ _ _) ?_
  blk_ext [idx t]

theorem final9 (c : Dev nD) : (dats m 0 c).arrAt 9 (cfgs 0).N
    = (val_main_v17 (F := Ideal) (m ((c : Thread nD τ).loc main_arg0)) (m ((c : Thread nD τ).loc main_arg1)) (m ((c : Thread nD τ).loc main_arg2)) : FVec Ideal S32768x128 .f32) := by
  refine (dats m 0 c).arrAt_eq_of_covers 9 _ (by decide +kernel) fun t _ y => ?_
  blk_simp
  rw [after0_9]
  idx_vars y
  refine (point9 m c t y0 y1).trans ?_
  refine Eq.trans ((col_vc m c (row t y0) y1).trans (v17_at _ _ _ (row t y0) y1).symm) ?_
  refine congrArg (val_main_v17 (F := Ideal) _ _ _) ?_
  blk_ext [idx t]

theorem final11 (c : Dev nD) : (dats m 0 c).arrAt 11 (cfgs 0).N
    = (val_main_v42 (F := Ideal) (m ((c : Thread nD τ).loc main_arg0)) (m ((c : Thread nD τ).loc main_arg1)) (m ((c : Thread nD τ).loc main_arg2)) : FVec Ideal S512x32768 .bf16) := by
  refine (dats m 0 c).arrAt_eq_of_covers 11 _ (by decide +kernel) fun t _ y => ?_
  blk_simp
  rw [after0_11]
  idx_vars y
  refine (point11 m c t y0 y1).trans ?_
  refine Eq.trans (((congrArg (col m c (row t y1)) (Fin.ext (by show y0.val = 0 + y0.val; omega))).trans (col_q m c (row t y1) y0)).trans (v42_at _ _ _ y0 (row t y1)).symm) ?_
  refine congrArg (val_main_v42 (F := Ideal) _ _ _) ?_
  blk_ext [idx t]

theorem final12 (c : Dev nD) : (dats m 0 c).arrAt 12 (cfgs 0).N
    = (val_main_v45 (F := Ideal) (m ((c : Thread nD τ).loc main_arg0)) (m ((c : Thread nD τ).loc main_arg1)) (m ((c : Thread nD τ).loc main_arg2)) : FVec Ideal S128x32768 .f32) := by
  refine (dats m 0 c).arrAt_eq_of_covers 12 _ (by decide +kernel) fun t _ y => ?_
  blk_simp
  rw [after0_12]
  idx_vars y
  refine (point12 m c t y0 y1).trans ?_
  refine Eq.trans ((g_at m c (row t y1) y0).trans (v45_at _ _ _ y0 (row t y1)).symm) ?_
  refine congrArg (val_main_v45 (F := Ideal) _ _ _) ?_
  blk_ext [idx t]

/-- The run: five results are the reference's on the same arguments, and the arguments end as they were. -/
theorem run (ρ : Dev nD → PrngReg) : θ_run defs (onTc (τ := τ) (main (F := Ideal))) ⟨m, fun _ => 0, ρ⟩ (fun r => ∀ c : Dev nD,
      r.2.mem ((c : Thread nD τ).loc main_v36_0) = (val_main_v38 (F := Ideal) (m ((c : Thread nD τ).loc main_arg0)) (m ((c : Thread nD τ).loc main_arg1)) (m ((c : Thread nD τ).loc main_arg2)) : FVec Ideal S32768x2048 .f32)
      ∧ r.2.mem ((c : Thread nD τ).loc main_v36_1) = (val_main_v16 (F := Ideal) (m ((c : Thread nD τ).loc main_arg0)) (m ((c : Thread nD τ).loc main_arg1)) (m ((c : Thread nD τ).loc main_arg2)) : FVec Ideal S32768x128 .f32)
      ∧ r.2.mem ((c : Thread nD τ).loc main_v36_2) = (val_main_v17 (F := Ideal) (m ((c : Thread nD τ).loc main_arg0)) (m ((c : Thread nD τ).loc main_arg1)) (m ((c : Thread nD τ).loc main_arg2)) : FVec Ideal S32768x128 .f32)
      ∧ r.2.mem ((c : Thread nD τ).loc main_v36_4) = (val_main_v42 (F := Ideal) (m ((c : Thread nD τ).loc main_arg0)) (m ((c : Thread nD τ).loc main_arg1)) (m ((c : Thread nD τ).loc main_arg2)) : FVec Ideal S512x32768 .bf16)
      ∧ r.2.mem ((c : Thread nD τ).loc main_v36_5) = (val_main_v45 (F := Ideal) (m ((c : Thread nD τ).loc main_arg0)) (m ((c : Thread nD τ).loc main_arg1)) (m ((c : Thread nD τ).loc main_arg2)) : FVec Ideal S128x32768 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨(((dats m 0 c).toRForget_arrAt_iff (fgt := forgets0) (w := 7) rfl _ _).mp ((h.1 c).1 7)).trans (final7 m c), (((dats m 0 c).toRForget_arrAt_iff (fgt := forgets0) (w := 8) rfl _ _).mp ((h.1 c).1 8)).trans (final8 m c), (((dats m 0 c).toRForget_arrAt_iff (fgt := forgets0) (w := 9) rfl _ _).mp ((h.1 c).1 9)).trans (final9 m c), (((dats m 0 c).toRForget_arrAt_iff (fgt := forgets0) (w := 11) rfl _ _).mp ((h.1 c).1 11)).trans (final11 m c), (((dats m 0 c).toRForget_arrAt_iff (fgt := forgets0) (w := 12) rfl _ _).mp ((h.1 c).1 12)).trans (final12 m c), ((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c)⟩) (run_main m ρ)

end Cert.Proof.In

end
-- ==== Proof.CmpPure.lean ====
/- The compression of one block of 32 rows: what the kernel's body stores and what the reference computes are the same
   function of the rows, the positions' embedding and the two weight matrices. -/
module

public import proofs.«01_k».proof.Proof.Gen.CmpKernelIdeal.Skeleton
public import proofs.«01_k».proof.Proof.Gen.CmpRefIdeal.Read
public import Idealize.ShloMosaic.PureOps.Ideal
public import Idealize.ShloMosaic.Lib.Pointwise
public import Idealize.ShloMosaic.Lib.Pipeline.ValueKit

@[expose] public section

set_option maxRecDepth 16384

noncomputable section

namespace Cert.Proof.Cmp

open Idealize.ShloMosaic Idealize.ShloMosaic.TcCoe Idealize.SL.Sem

/-- The Gaussian error unit in its hyperbolic tangent form. -/
def gelu (t : EReal) : EReal :=
  t * (Ideal.ofBits .f32 0x3F000000#32 * (1 + Ideal.tanh (Ideal.ofBits .f32 0x3F4C422A#32
    * (t + Ideal.ofBits .f32 0x3D372713#32 * (t * (t * t))))))

/-- A hidden unit of group `g` before its activation: block `n`'s 32 rows of the group, embedded, times the unit's weights. -/
def pre (x : Fin 4096 → Fin 128 → EReal) (pe : Fin 32 → Fin 64 → EReal) (w1 : Fin 32 → Fin 64 → Fin 128 → EReal)
    (n : Fin 255) (g : Fin 2) (f : Fin 128) : EReal :=
  ∑ d : Fin 64, ∑ l : Fin 32, (x ⟨n.val * 16 + l.val, by omega⟩ ⟨g.val * 64 + d.val, by omega⟩ + pe l d) * w1 l d f

/-- Block `n`'s compressed row at column `j`, the column of group `j / 64`. -/
def out (x : Fin 4096 → Fin 128 → EReal) (pe : Fin 32 → Fin 64 → EReal) (w1 : Fin 32 → Fin 64 → Fin 128 → EReal)
    (w2 : Fin 128 → Fin 64 → EReal) (n : Fin 255) (j : Fin 128) : EReal :=
  ∑ f : Fin 128, gelu (pre x pe w1 n ⟨j.val / 64, by omega⟩ f) * w2 f ⟨j.val % 64, by omega⟩

/-! ## Sums over a group's lanes -/

/-- A sum over `a * b` indices, `b` after `b`. -/
theorem sum_rows (a b N : Nat) (h : a * b = N) (f : Fin N → EReal) :
    ∑ w, f w = ∑ u : Fin a, ∑ v : Fin b, f ⟨u.val * b + v.val, by
      have h1 := u.isLt; have h2 := v.isLt; subst h
      calc u.val * b + v.val < u.val * b + b := by omega
        _ = (u.val + 1) * b := by ring
        _ ≤ a * b := Nat.mul_le_mul_right _ h1⟩ := by
  subst h
  rw [← Fintype.sum_prod_type', ← Equiv.sum_comp finProdFinEquiv f]
  refine Finset.sum_congr rfl fun p _ => congrArg f (Fin.ext ?_)
  simp [finProdFinEquiv]; ring

/-- The lanes of a wide row that a block-diagonal column meets are its group's. -/
theorem sum_wide (f : Fin 2048 → EReal) (k : Fin 2) (hf : ∀ w : Fin 2048, w.val / 64 % 2 ≠ k.val → f w = 0) :
    ∑ w, f w = ∑ l : Fin 16, ∑ d : Fin 64, f ⟨l.val * 128 + k.val * 64 + d.val, by omega⟩ := by
  rw [sum_rows 16 128 2048 rfl]
  refine Finset.sum_congr rfl fun l _ => ?_
  rw [sum_rows 2 64 128 rfl (fun v => f ⟨l.val * 128 + v.val, by omega⟩)]
  refine Eq.trans (Finset.sum_eq_single k (fun g _ hg => Finset.sum_eq_zero fun d _ => hf _ ?_) (fun h => absurd (Finset.mem_univ _) h)) ?_
  · have : g.val ≠ k.val := fun e => hg (Fin.ext e)
    simp only
    omega
  · refine Finset.sum_congr rfl fun d _ => congrArg f (Fin.ext ?_)
    simp only
    omega

/-- The hidden units that a block-diagonal output column meets are its group's. -/
theorem sum_hidden (f : Fin 256 → EReal) (k : Fin 2) (hf : ∀ q : Fin 256, q.val / 128 ≠ k.val → f q = 0) :
    ∑ q, f q = ∑ u : Fin 128, f ⟨k.val * 128 + u.val, by omega⟩ := by
  rw [sum_rows 2 128 256 rfl]
  refine Finset.sum_eq_single k (fun g _ hg => Finset.sum_eq_zero fun d _ => hf _ ?_) (fun h => absurd (Finset.mem_univ _) h)
  have : g.val ≠ k.val := fun e => hg (Fin.ext e)
  simp only
  omega

/-- The first 16 rows of a block and the last 16. -/
theorem sum_halves (f : Fin 32 → EReal) :
    ∑ l, f l = ∑ l : Fin 16, f ⟨l.val, by omega⟩ + ∑ l : Fin 16, f ⟨16 + l.val, by omega⟩ :=
  Fin.sum_univ_add (a := 16) (b := 16) f

/-- A hidden unit's sum over its block's rows, as the sums over the two chunks. -/
theorem pre_eq (x : Fin 4096 → Fin 128 → EReal) (pe : Fin 32 → Fin 64 → EReal) (w1 : Fin 32 → Fin 64 → Fin 128 → EReal)
    (n : Fin 255) (g : Fin 2) (f : Fin 128) : pre x pe w1 n g f
      = ∑ l : Fin 16, ∑ d : Fin 64, (x ⟨n.val * 16 + l.val, by omega⟩ ⟨g.val * 64 + d.val, by omega⟩ + pe ⟨l.val, by omega⟩ d) * w1 ⟨l.val, by omega⟩ d f
        + ∑ l : Fin 16, ∑ d : Fin 64, (x ⟨n.val * 16 + (16 + l.val), by omega⟩ ⟨g.val * 64 + d.val, by omega⟩ + pe ⟨16 + l.val, by omega⟩ d) * w1 ⟨16 + l.val, by omega⟩ d f := by
  unfold pre
  rw [Finset.sum_comm, sum_halves]

section Kernel
open Cert.CmpKernelIdeal Cert.CmpKernelIdeal.Gen

/-- The activated hidden units of a block of rows. -/
theorem pay2_at (X : FVec Ideal S1x256x2048 .f32) (P P' : FVec Ideal S1x2048 .f32) (A B : FVec Ideal S1x2048x256 .bf16)
    (r : Fin 256) (q : Fin 256) :
    (k0_pay2 X P A P' B : FVec Ideal S256x256 .bf16) (ix2 r q) = gelu (∑ w, (X (ix3 0 r w) + P (ix2 0 w)) * A (ix3 0 w q)
      + ∑ w, (X (ix3 0 ⟨(r.val + 256 - 255) % 256, by omega⟩ w) + P' (ix2 0 w)) * B (ix3 0 w q)) := by
  unfold gelu
  pointwise [k0_pay2]

/-- The hidden units projected to a block of compressed rows. -/
theorem pay4_at (X : FVec Ideal S256x256 .bf16) (W : FVec Ideal S256x128 .bf16) (r : Fin 256) (j : Fin 128) :
    (k0_pay4 X (k0_pay3 W) (constant S256x128 .f32 0x00000000#32) : FVec Ideal S1x256x128 .bf16) (ix3 0 r j)
      = ∑ q : Fin 256, X (ix2 r q) * W (ix2 q j) := by
  pointwise [k0_pay4, k0_pay3]

/-- The values' half of the body computes what the keys' half does. -/
theorem pay1_at (X : FVec Ideal S1x256x2048 .f32) (P P' : FVec Ideal S1x2048 .f32) (A B : FVec Ideal S1x2048x256 .bf16)
    (W : FVec Ideal S256x128 .bf16) (r : Fin 256) (j : Fin 128) :
    (k0_pay1 (k0_pay5 X P A P' B) (k0_pay6 X P A P' B) (k0_pay7 (F := Ideal)) W : FVec Ideal S1x256x128 .bf16) (ix3 0 r j)
      = (k0_pay4 (k0_pay2 X P A P' B) (k0_pay3 W) (constant S256x128 .f32 0x00000000#32) : FVec Ideal S1x256x128 .bf16) (ix3 0 r j) := rfl

/-- WHAT THE BODY STORES at a row before the last and a column, of packed weights whose blocks off the diagonal are zero. -/
theorem body_at (X : FVec Ideal S1x256x2048 .f32) (P P' : FVec Ideal S1x2048 .f32) (A B : FVec Ideal S1x2048x256 .bf16)
    (W : FVec Ideal S256x128 .bf16) (x : Fin 4096 → Fin 128 → EReal) (pe : Fin 32 → Fin 64 → EReal)
    (w1 : Fin 32 → Fin 64 → Fin 128 → EReal) (w2 : Fin 128 → Fin 64 → EReal)
    (hX : ∀ (r : Fin 256) (w : Fin 2048), X (ix3 0 r w) = x ⟨r.val * 16 + w.val / 128, by omega⟩ ⟨w.val % 128, by omega⟩)
    (hP : ∀ w : Fin 2048, P (ix2 0 w) = pe ⟨w.val / 128, by omega⟩ ⟨w.val % 64, by omega⟩)
    (hP' : ∀ w : Fin 2048, P' (ix2 0 w) = pe ⟨16 + w.val / 128, by omega⟩ ⟨w.val % 64, by omega⟩)
    (hA : ∀ (w : Fin 2048) (q : Fin 256), A (ix3 0 w q)
      = w1 ⟨w.val / 128, by omega⟩ ⟨w.val % 64, by omega⟩ ⟨q.val % 128, by omega⟩ * (if w.val / 64 % 2 = q.val / 128 then 1 else 0))
    (hB : ∀ (w : Fin 2048) (q : Fin 256), B (ix3 0 w q)
      = w1 ⟨16 + w.val / 128, by omega⟩ ⟨w.val % 64, by omega⟩ ⟨q.val % 128, by omega⟩ * (if w.val / 64 % 2 = q.val / 128 then 1 else 0))
    (hW : ∀ (q : Fin 256) (j : Fin 128), W (ix2 q j)
      = w2 ⟨q.val % 128, by omega⟩ ⟨j.val % 64, by omega⟩ * (if q.val / 128 = j.val / 64 then 1 else 0))
    (n : Fin 255) (j : Fin 128) :
    (k0_pay4 (k0_pay2 X P A P' B) (k0_pay3 W) (constant S256x128 .f32 0x00000000#32) : FVec Ideal S1x256x128 .bf16)
      (ix3 0 ⟨n.val, by omega⟩ j) = out x pe w1 w2 n j := by
  rw [pay4_at, sum_hidden _ ⟨j.val / 64, by omega⟩ (fun q hq => by rw [hW, if_neg hq, mul_zero, mul_zero])]
  refine Finset.sum_congr rfl fun f _ => ?_
  have hg : (j.val / 64 * 128 + f.val) / 128 = j.val / 64 := by omega
  have hm : (j.val / 64 * 128 + f.val) % 128 = f.val := by omega
  rw [hW, pay2_at, if_pos hg, mul_one]
  simp only [hm]
  refine congrArg₂ (· * ·) (congrArg gelu ?_) rfl
  rw [sum_wide _ ⟨j.val / 64, by omega⟩ (fun w hw => by rw [hA, if_neg (by rw [hg]; exact hw), mul_zero, mul_zero]),
    sum_wide _ ⟨j.val / 64, by omega⟩ (fun w hw => by rw [hB, if_neg (by rw [hg]; exact hw), mul_zero, mul_zero])]
  rw [pre_eq]
  refine congrArg₂ (· + ·) ?_ ?_
  all_goals refine Finset.sum_congr rfl fun l _ => Finset.sum_congr rfl fun d _ => ?_
  · have e1 : (l.val * 128 + j.val / 64 * 64 + d.val) / 128 = l.val := by omega
    have e2 : (l.val * 128 + j.val / 64 * 64 + d.val) % 64 = d.val := by omega
    have e3 : (l.val * 128 + j.val / 64 * 64 + d.val) % 128 = j.val / 64 * 64 + d.val := by omega
    have e4 : (l.val * 128 + j.val / 64 * 64 + d.val) / 64 % 2 = j.val / 64 := by omega
    simp only [hX, hP, hA, e1, e2, e3, e4, hg, hm, if_true, mul_one]
  · have e1 : (l.val * 128 + j.val / 64 * 64 + d.val) / 128 = l.val := by omega
    have e2 : (l.val * 128 + j.val / 64 * 64 + d.val) % 64 = d.val := by omega
    have e3 : (l.val * 128 + j.val / 64 * 64 + d.val) % 128 = j.val / 64 * 64 + d.val := by omega
    have e4 : (l.val * 128 + j.val / 64 * 64 + d.val) / 64 % 2 = j.val / 64 := by omega
    have e5 : (n.val + 256 - 255) % 256 * 16 + l.val = n.val * 16 + (16 + l.val) := by omega
    simp only [hX, hP', hB, e1, e2, e3, e4, e5, hg, hm, if_true, mul_one]

end Kernel

section Reference
open Cert.CmpRefIdeal Cert.CmpRefIdeal.Gen Cert.CmpRefIdeal.Read

/-- The reference's overlapping blocks: row `l` of block `n` is row `16 n + l`. -/
theorem v4_at (x0 : FVec Ideal S8x4096x128 .f32) (b : Fin 8) (n : Fin 255) (l : Fin 32) (g : Fin 2) (d : Fin 64) :
    (val_main_v4 (F := Ideal) x0 : FVec Ideal S8x255x32x2x64 .f32) (ix5 b n l g d)
      = x0 (ix3 b ⟨n.val * 16 + l.val, by omega⟩ ⟨g.val * 64 + d.val, by omega⟩) := by
  unfold val_main_v4
  by_cases h : l.val < 16
  · refine Eq.trans (concatenate_apply_piece (t := S8x255x32x2x64) 2 _ _ _ 0 (by show 0 < 2; decide) S8x255x16x2x64 _ rfl rfl 0 rfl (ix5 b n ⟨l.val, h⟩ g d) ?_ ?_) ?_
    · intro a ha; fin_cases a <;> first | rfl | exact absurd rfl ha
    · show 0 + l.val = l.val; omega
    simp only [Matrix.cons_val]
    pointwise [val_main_v2, val_main_v1, val_main_v0]
  · refine Eq.trans (concatenate_apply_piece (t := S8x255x32x2x64) 2 _ _ _ 1 (by show 1 < 2; decide) S8x255x16x2x64 _ rfl rfl 16 rfl (ix5 b n ⟨l.val - 16, by omega⟩ g d) ?_ ?_) ?_
    · intro a ha; fin_cases a <;> first | rfl | exact absurd rfl ha
    · show 16 + (l.val - 16) = l.val; omega
    simp only [Matrix.cons_val]
    pointwise [val_main_v3, val_main_v1, val_main_v0]
    exact congrArg (fun s => x0 (ix3 b s _)) (Fin.ext (by simp only; omega))

theorem v8_at (x0 : FVec Ideal S8x4096x128 .f32) (x2 : FVec Ideal S32x64 .f32) (x3 : FVec Ideal S32x64x128 .f32)
    (b : Fin 8) (n : Fin 255) (g : Fin 2) (f : Fin 128) :
    (val_main_v8 (F := Ideal) x0 x2 x3 : FVec Ideal S8x255x2x128 .f32) (ix4 b n g f)
      = pre (fun s j => x0 (ix3 b s j)) (fun l d => x2 (ix2 l d)) (fun l d f => x3 (ix3 l d f)) n g f := by
  pointwise [val_main_v8, val_main_v7, val_main_v6, val_main_v5, v4_at, pre]

/-- WHAT THE REFERENCE COMPUTES of the keys. -/
theorem ref_at (x0 : FVec Ideal S8x4096x128 .f32) (x2 : FVec Ideal S32x64 .f32) (x3 : FVec Ideal S32x64x128 .f32)
    (x4 : FVec Ideal S128x64 .f32) (b : Fin 8) (n : Fin 255) (j : Fin 128) :
    (val_main_v47 (F := Ideal) x0 x2 x3 x4 : FVec Ideal S8x255x128 .bf16) (ix3 b n j)
      = out (fun s j => x0 (ix3 b s j)) (fun l d => x2 (ix2 l d)) (fun l d f => x3 (ix3 l d f)) (fun f d => x4 (ix2 f d)) n j := by
  pointwise [val_main_v47, val_main_v46, val_main_v22, val_main_v21, val_main_v20, val_main_v19, val_main_v18, val_main_v17,
    val_main_v16, val_main_v15, val_main_v14, val_main_v13, val_main_v12, val_main_v11, val_main_v10, val_main_v9,
    val_main_cst, val_main_cst_0, val_main_cst_1, val_main_cst_2, v8_at, out, gelu]
  simp only [mul_assoc]

/-- What it computes of the values is the same function of theirs. -/
theorem ref_v (x1 : FVec Ideal S8x4096x128 .f32) (x5 : FVec Ideal S32x64 .f32) (x6 : FVec Ideal S32x64x128 .f32)
    (x7 : FVec Ideal S128x64 .f32) : (val_main_v49 (F := Ideal) x1 x5 x6 x7 : FVec Ideal S8x255x128 .bf16)
      = val_main_v47 (F := Ideal) x1 x5 x6 x7 := rfl

end Reference

end Cert.Proof.Cmp

end
-- ==== Proof.CmpValue.lean ====
/- The arrays the compression's kernel leaves, cut to the whole blocks, are the reference's results. -/
module

public import proofs.«01_k».proof.Proof.CmpPure
public import proofs.«01_k».proof.Proof.Gen.CmpKernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Cmp

open Idealize.ShloMosaic Idealize.ShloMosaic.TcCoe Idealize.SL.Sem
open Idealize.ShloMosaic.Pipeline (Dat)
open Cert.CmpKernelIdeal Cert.CmpKernelIdeal.Gen

variable (m : (ℓ : Loc nD τ sig) → Buf (Elt Ideal) ℓ)

/-- The windows' block indices: the rows and the results move with the grid point, everything else is whole. -/
theorem idx : ∀ t : Fin cfg0.N, win0_0.index t = ![t.val, 0, 0] ∧ win0_1.index t = ![t.val, 0, 0] ∧ win0_2.index t = ![0, 0]
    ∧ win0_3.index t = ![0, 0, 0] ∧ win0_4.index t = ![0, 0] ∧ win0_5.index t = ![0, 0] ∧ win0_6.index t = ![0, 0, 0]
    ∧ win0_7.index t = ![0, 0] ∧ win0_8.index t = ![t.val, 0, 0] ∧ win0_9.index t = ![t.val, 0, 0] :=
  (by decide +kernel : ∀ t : Fin grid0.N, _)

/-- An entry of the identity the packed weights are multiplied by. -/
theorem eye_at (a b : Nat) (ha : a < 2) (hb : b < 2) :
    (FloatOps.uitofp FTy.f32 (IntOp.cmpi CmpIPredicate.eq (IntOp.addi (BitVec.ofNat 32 a) 0#32) (BitVec.ofNat 32 b)) : Ideal .f32)
      = (if a = b then (1 : EReal) else 0) := by
  interval_cases a <;> interval_cases b <;> simp [IntOp.cmpi, IntOp.addi, FloatOps.uitofp]

/-- An entry of the packed first weights: the weight of its row within the group, when row and column are of one group. -/
def packA (w1 : FVec Ideal S32x64x128 .f32) (r : Fin 2) (w : Fin 2048) (q : Fin 256) : EReal :=
  @HMul.hMul EReal EReal EReal _ (w1 (ix3 ⟨r.val * 16 + w.val / 128, by omega⟩ ⟨w.val % 64, by omega⟩ ⟨q.val % 128, by omega⟩))
    (if w.val / 64 % 2 = q.val / 128 then (1 : EReal) else 0)

/-- An entry of the packed second weights. -/
def packW (w2 : FVec Ideal S128x64 .f32) (q : Fin 256) (j : Fin 128) : EReal :=
  @HMul.hMul EReal EReal EReal _ (w2 (ix2 ⟨q.val % 128, by omega⟩ ⟨j.val % 64, by omega⟩))
    (if q.val / 128 = j.val / 64 then (1 : EReal) else 0)

/-- Dropping the last row keeps the others where they are. -/
theorem cut_at (A : FVec Ideal S8x256x128 .bf16) (b : Fin 8) (n : Fin 255) (j : Fin 128) :
    extractStridedSlice S8x255x128 ![0, 0, 0] A slices_S8x256x128_S8x255x128_0_0_0 (ix3 b n j) = A (ix3 b ⟨n.val, by omega⟩ j) := by
  pointwise

/-- The rows of the keys as packed: 16 consecutive rows of a sequence side by side. -/
theorem entx_k (c : Dev nD) (b : Fin 8) (r : Fin 256) (w : Fin 2048) :
    (show FVec Ideal S8x256x2048 .f32 from V m c main_v0) (ix3 b r w) = (m ((c : Thread nD τ).loc main_arg0) : FVec Ideal S8x4096x128 .f32)
      (ix3 b ⟨r.val * 16 + w.val / 128, by omega⟩ ⟨w.val % 128, by omega⟩) := by
  simp only [V]
  after_reads_simp
  pointwise []

/-- The embedding of the keys as packed: repeated for the groups. -/
theorem entp_k (c : Dev nD) (r : Fin 2) (w : Fin 2048) :
    (show FVec Ideal S2x2048 .f32 from V m c main_v12) (ix2 r w) = (m ((c : Thread nD τ).loc main_arg2) : FVec Ideal S32x64 .f32)
      (ix2 ⟨r.val * 16 + w.val / 128, by omega⟩ ⟨w.val % 64, by omega⟩) := by
  simp only [V]
  after_reads_simp
  pointwise []

/-- The block of rows at point `t` is the packed rows of sequence `t`. -/
theorem blkx_k (c : Dev nD) (t : Fin cfg0.N) (r : Fin 256) (w : Fin 2048) :
    (iblk m c 0 t : FVec Ideal S1x256x2048 .f32) (ix3 0 r w) = (m ((c : Thread nD τ).loc main_arg0) : FVec Ideal S8x4096x128 .f32)
      (ix3 ⟨t.val, t.isLt⟩ ⟨r.val * 16 + w.val / 128, by omega⟩ ⟨w.val % 128, by omega⟩) := by
  refine Eq.trans ?_ (entx_k m c ⟨t.val, t.isLt⟩ r w)
  blk_simp [iblk]
  blk_ext [idx t]

/-- The embedding's block is the packed array. -/
theorem blkp_k (c : Dev nD) (t : Fin cfg0.N) (r : Fin 2) (w : Fin 2048) :
    (iblk m c 2 t : FVec Ideal S2x2048 .f32) (ix2 r w) = (m ((c : Thread nD τ).loc main_arg2) : FVec Ideal S32x64 .f32)
      (ix2 ⟨r.val * 16 + w.val / 128, by omega⟩ ⟨w.val % 64, by omega⟩) := by
  refine Eq.trans ?_ (entp_k m c r w)
  blk_simp [iblk]
  blk_ext [idx t]

/-- The first weights of the keys as packed: block diagonal over the groups. -/
theorem enta_k (c : Dev nD) (r : Fin 2) (w : Fin 2048) (q : Fin 256) :
    (show FVec Ideal S2x2048x256 .bf16 from V m c main_v26) (ix3 r w q) = packA (m ((c : Thread nD τ).loc main_arg3)) r w q := by
  simp only [V]
  after_reads_simp
  pointwise []
  exact congrArg _ (eye_at _ _ (by omega) (by omega))

/-- The second weights of the keys as packed: block diagonal over the groups. -/
theorem entw_k (c : Dev nD) (q : Fin 256) (j : Fin 128) :
    (show FVec Ideal S256x128 .bf16 from V m c main_v27) (ix2 q j) = packW (m ((c : Thread nD τ).loc main_arg4)) q j := by
  simp only [V]
  after_reads_simp
  pointwise []
  exact congrArg _ (eye_at _ _ (by omega) (by omega))

/-- The first weights' block is the packed array. -/
theorem blka_k (c : Dev nD) (t : Fin cfg0.N) (r : Fin 2) (w : Fin 2048) (q : Fin 256) :
    (iblk m c 3 t : FVec Ideal S2x2048x256 .bf16) (ix3 r w q) = packA (m ((c : Thread nD τ).loc main_arg3)) r w q := by
  refine Eq.trans ?_ (enta_k m c r w q)
  blk_simp [iblk]
  blk_ext [idx t]

/-- The second weights' block is the packed array. -/
theorem blkw_k (c : Dev nD) (t : Fin cfg0.N) (q : Fin 256) (j : Fin 128) :
    (iblk m c 4 t : FVec Ideal S256x128 .bf16) (ix2 q j) = packW (m ((c : Thread nD τ).loc main_arg4)) q j := by
  refine Eq.trans ?_ (entw_k m c q j)
  blk_simp [iblk]
  blk_ext [idx t]

/-- The rows of the values as packed: 16 consecutive rows of a sequence side by side. -/
theorem entx_v (c : Dev nD) (b : Fin 8) (r : Fin 256) (w : Fin 2048) :
    (show FVec Ideal S8x256x2048 .f32 from V m c main_v1) (ix3 b r w) = (m ((c : Thread nD τ).loc main_arg1) : FVec Ideal S8x4096x128 .f32)
      (ix3 b ⟨r.val * 16 + w.val / 128, by omega⟩ ⟨w.val % 128, by omega⟩) := by
  simp only [V]
  after_reads_simp
  pointwise []

/-- The embedding of the values as packed: repeated for the groups. -/
theorem entp_v (c : Dev nD) (r : Fin 2) (w : Fin 2048) :
    (show FVec Ideal S2x2048 .f32 from V m c main_v38) (ix2 r w) = (m ((c : Thread nD τ).loc main_arg5) : FVec Ideal S32x64 .f32)
      (ix2 ⟨r.val * 16 + w.val / 128, by omega⟩ ⟨w.val % 64, by omega⟩) := by
  simp only [V]
  after_reads_simp
  pointwise []

/-- The block of rows at point `t` is the packed rows of sequence `t`. -/
theorem blkx_v (c : Dev nD) (t : Fin cfg0.N) (r : Fin 256) (w : Fin 2048) :
    (iblk m c 1 t : FVec Ideal S1x256x2048 .f32) (ix3 0 r w) = (m ((c : Thread nD τ).loc main_arg1) : FVec Ideal S8x4096x128 .f32)
      (ix3 ⟨t.val, t.isLt⟩ ⟨r.val * 16 + w.val / 128, by omega⟩ ⟨w.val % 128, by omega⟩) := by
  refine Eq.trans ?_ (entx_v m c ⟨t.val, t.isLt⟩ r w)
  blk_simp [iblk]
  blk_ext [idx t]

/-- The embedding's block is the packed array. -/
theorem blkp_v (c : Dev nD) (t : Fin cfg0.N) (r : Fin 2) (w : Fin 2048) :
    (iblk m c 5 t : FVec Ideal S2x2048 .f32) (ix2 r w) = (m ((c : Thread nD τ).loc main_arg5) : FVec Ideal S32x64 .f32)
      (ix2 ⟨r.val * 16 + w.val / 128, by omega⟩ ⟨w.val % 64, by omega⟩) := by
  refine Eq.trans ?_ (entp_v m c r w)
  blk_simp [iblk]
  blk_ext [idx t]

/-- The first weights of the values as packed: block diagonal over the groups. -/
theorem enta_v (c : Dev nD) (r : Fin 2) (w : Fin 2048) (q : Fin 256) :
    (show FVec Ideal S2x2048x256 .bf16 from V m c main_v52) (ix3 r w q) = packA (m ((c : Thread nD τ).loc main_arg6)) r w q := by
  simp only [V]
  after_reads_simp
  pointwise []
  exact congrArg _ (eye_at _ _ (by omega) (by omega))

/-- The second weights of the values as packed: block diagonal over the groups. -/
theorem entw_v (c : Dev nD) (q : Fin 256) (j : Fin 128) :
    (show FVec Ideal S256x128 .bf16 from V m c main_v53) (ix2 q j) = packW (m ((c : Thread nD τ).loc main_arg7)) q j := by
  simp only [V]
  after_reads_simp
  pointwise []
  exact congrArg _ (eye_at _ _ (by omega) (by omega))

/-- The first weights' block is the packed array. -/
theorem blka_v (c : Dev nD) (t : Fin cfg0.N) (r : Fin 2) (w : Fin 2048) (q : Fin 256) :
    (iblk m c 6 t : FVec Ideal S2x2048x256 .bf16) (ix3 r w q) = packA (m ((c : Thread nD τ).loc main_arg6)) r w q := by
  refine Eq.trans ?_ (enta_v m c r w q)
  blk_simp [iblk]
  blk_ext [idx t]

/-- The second weights' block is the packed array. -/
theorem blkw_v (c : Dev nD) (t : Fin cfg0.N) (q : Fin 256) (j : Fin 128) :
    (iblk m c 7 t : FVec Ideal S256x128 .bf16) (ix2 q j) = packW (m ((c : Thread nD τ).loc main_arg7)) q j := by
  refine Eq.trans ?_ (entw_v m c q j)
  blk_simp [iblk]
  blk_ext [idx t]

/-- What point `t` writes at a row before the last: the compressed row of the keys. -/
theorem point_k (c : Dev nD) (t : Fin cfg0.N) (n : Fin 255) (j : Fin 128) :
    (out0_8 (iblk m c 0 t) (iblk m c 1 t) (iblk m c 2 t) (iblk m c 3 t) (iblk m c 4 t) (iblk m c 5 t) (iblk m c 6 t) (iblk m c 7 t) : FVec Ideal S1x256x128 .bf16) (ix3 0 ⟨n.val, by omega⟩ j)
      = out (fun s j => (m ((c : Thread nD τ).loc main_arg0) : FVec Ideal S8x4096x128 .f32) (ix3 ⟨t.val, t.isLt⟩ s j))
          (fun l d => (m ((c : Thread nD τ).loc main_arg2) : FVec Ideal S32x64 .f32) (ix2 l d))
          (fun l d f => (m ((c : Thread nD τ).loc main_arg3) : FVec Ideal S32x64x128 .f32) (ix3 l d f))
          (fun f d => (m ((c : Thread nD τ).loc main_arg4) : FVec Ideal S128x64 .f32) (ix2 f d)) n j := by
  frame_out
  refine body_at _ _ _ _ _ _ _ _ _ _ ?_ ?_ ?_ ?_ ?_ ?_ n j
  · intro r w; pointwise [blkx_k]
  · intro w; pointwise [blkp_k]
  · intro w; pointwise [blkp_k]
  · intro w q; pointwise [blka_k]; simp only [packA]; pointwise
  · intro w q; pointwise [blka_k]; simp only [packA]; pointwise
  · intro q j; pointwise [blkw_k]; simp only [packW]

/-- The array the call leaves, as its points' blocks. -/
def full_k (c : Dev nD) : FVec Ideal S8x256x128 .bf16 := fun i =>
  (out0_8 (iblk m c 0 (i 0)) (iblk m c 1 (i 0)) (iblk m c 2 (i 0)) (iblk m c 3 (i 0)) (iblk m c 4 (i 0)) (iblk m c 5 (i 0)) (iblk m c 6 (i 0)) (iblk m c 7 (i 0)) : FVec Ideal S1x256x128 .bf16) (ix3 0 (i 1) (i 2))

theorem full_k_at (c : Dev nD) (t : Fin cfg0.N) (r : Fin 256) (j : Fin 128) :
    full_k m c (ix3 (⟨t.val, t.isLt⟩ : Fin 8) r j) = (out0_8 (iblk m c 0 t) (iblk m c 1 t) (iblk m c 2 t) (iblk m c 3 t) (iblk m c 4 t) (iblk m c 5 t) (iblk m c 6 t) (iblk m c 7 t) : FVec Ideal S1x256x128 .bf16) (ix3 0 r j) := rfl

theorem arr_k (c : Dev nD) : (dats m 0 c).arrAt 8 (cfgs 0).N = full_k m c := by
  refine (dats m 0 c).arrAt_eq_of_covers 8 _ (by decide +kernel) fun t _ y => ?_
  blk_simp
  rw [after0_8]
  idx_vars y
  obtain rfl : y0 = 0 := Subsingleton.elim _ _
  refine (full_k_at m c t y1 y2).symm.trans ?_
  generalize full_k m c = A
  blk_ext [idx t]

open Cert.CmpRefIdeal.Read (val_main_v47) in
/-- The array cut to the whole blocks is the reference's result. -/
theorem tail_k (c : Dev nD) : Pipeline.afterTail₀ cfgs (dats m) 0 (V0 m) [hostOps1] c main_v55
    = (val_main_v47 (F := Ideal) (m ((c : Thread nD τ).loc main_arg0)) (m ((c : Thread nD τ).loc main_arg2)) (m ((c : Thread nD τ).loc main_arg3)) (m ((c : Thread nD τ).loc main_arg4)) : FVec Ideal S8x255x128 .bf16) := by
  have h : Pipeline.withArrays (cfgs 0).spec c (V0 m c) (fun w => (dats m 0 c).arrAt w (cfgs 0).N) (Proc.devRef .tc (Pipeline.arrRef spec0 8)) = full_k m c :=
    (Pipeline.withArrays_arr spec0 (by decide) c _ _ 8).trans (arr_k m c)
  unfold Pipeline.afterTail₀
  after_reads_simp
  refine (congrArg (fun A : FVec Ideal S8x256x128 .bf16 => extractStridedSlice S8x255x128 ![0, 0, 0] A slices_S8x256x128_S8x255x128_0_0_0) h).trans ?_
  funext i
  idx_vars i
  exact (cut_at _ i0 i1 i2).trans ((point_k m c i0 i1 i2).trans (ref_at (m ((c : Thread nD τ).loc main_arg0)) (m ((c : Thread nD τ).loc main_arg2)) (m ((c : Thread nD τ).loc main_arg3)) (m ((c : Thread nD τ).loc main_arg4)) i0 i1 i2).symm)

/-- What point `t` writes at a row before the last: the compressed row of the values. -/
theorem point_v (c : Dev nD) (t : Fin cfg0.N) (n : Fin 255) (j : Fin 128) :
    (out0_9 (iblk m c 0 t) (iblk m c 1 t) (iblk m c 2 t) (iblk m c 3 t) (iblk m c 4 t) (iblk m c 5 t) (iblk m c 6 t) (iblk m c 7 t) : FVec Ideal S1x256x128 .bf16) (ix3 0 ⟨n.val, by omega⟩ j)
      = out (fun s j => (m ((c : Thread nD τ).loc main_arg1) : FVec Ideal S8x4096x128 .f32) (ix3 ⟨t.val, t.isLt⟩ s j))
          (fun l d => (m ((c : Thread nD τ).loc main_arg5) : FVec Ideal S32x64 .f32) (ix2 l d))
          (fun l d f => (m ((c : Thread nD τ).loc main_arg6) : FVec Ideal S32x64x128 .f32) (ix3 l d f))
          (fun f d => (m ((c : Thread nD τ).loc main_arg7) : FVec Ideal S128x64 .f32) (ix2 f d)) n j := by
  frame_out
  refine (pay1_at _ _ _ _ _ _ _ _).trans ?_
  refine body_at _ _ _ _ _ _ _ _ _ _ ?_ ?_ ?_ ?_ ?_ ?_ n j
  · intro r w; pointwise [blkx_v]
  · intro w; pointwise [blkp_v]
  · intro w; pointwise [blkp_v]
  · intro w q; pointwise [blka_v]; simp only [packA]; pointwise
  · intro w q; pointwise [blka_v]; simp only [packA]; pointwise
  · intro q j; pointwise [blkw_v]; simp only [packW]

/-- The array the call leaves, as its points' blocks. -/
def full_v (c : Dev nD) : FVec Ideal S8x256x128 .bf16 := fun i =>
  (out0_9 (iblk m c 0 (i 0)) (iblk m c 1 (i 0)) (iblk m c 2 (i 0)) (iblk m c 3 (i 0)) (iblk m c 4 (i 0)) (iblk m c 5 (i 0)) (iblk m c 6 (i 0)) (iblk m c 7 (i 0)) : FVec Ideal S1x256x128 .bf16) (ix3 0 (i 1) (i 2))

theorem full_v_at (c : Dev nD) (t : Fin cfg0.N) (r : Fin 256) (j : Fin 128) :
    full_v m c (ix3 (⟨t.val, t.isLt⟩ : Fin 8) r j) = (out0_9 (iblk m c 0 t) (iblk m c 1 t) (iblk m c 2 t) (iblk m c 3 t) (iblk m c 4 t) (iblk m c 5 t) (iblk m c 6 t) (iblk m c 7 t) : FVec Ideal S1x256x128 .bf16) (ix3 0 r j) := rfl

theorem arr_v (c : Dev nD) : (dats m 0 c).arrAt 9 (cfgs 0).N = full_v m c := by
  refine (dats m 0 c).arrAt_eq_of_covers 9 _ (by decide +kernel) fun t _ y => ?_
  blk_simp
  rw [after0_9]
  idx_vars y
  obtain rfl : y0 = 0 := Subsingleton.elim _ _
  refine (full_v_at m c t y1 y2).symm.trans ?_
  generalize full_v m c = A
  blk_ext [idx t]

open Cert.CmpRefIdeal.Read (val_main_v49) in
/-- The array cut to the whole blocks is the reference's result. -/
theorem tail_v (c : Dev nD) : Pipeline.afterTail₀ cfgs (dats m) 0 (V0 m) [hostOps1] c main_v56
    = (val_main_v49 (F := Ideal) (m ((c : Thread nD τ).loc main_arg1)) (m ((c : Thread nD τ).loc main_arg5)) (m ((c : Thread nD τ).loc main_arg6)) (m ((c : Thread nD τ).loc main_arg7)) : FVec Ideal S8x255x128 .bf16) := by
  have h : Pipeline.withArrays (cfgs 0).spec c (V0 m c) (fun w => (dats m 0 c).arrAt w (cfgs 0).N) (Proc.devRef .tc (Pipeline.arrRef spec0 9)) = full_v m c :=
    (Pipeline.withArrays_arr spec0 (by decide) c _ _ 9).trans (arr_v m c)
  unfold Pipeline.afterTail₀
  after_reads_simp
  refine (congrArg (fun A : FVec Ideal S8x256x128 .bf16 => extractStridedSlice S8x255x128 ![0, 0, 0] A slices_S8x256x128_S8x255x128_0_0_0) h).trans ?_
  funext i
  idx_vars i
  exact (cut_at _ i0 i1 i2).trans ((point_v m c i0 i1 i2).trans (ref_at (m ((c : Thread nD τ).loc main_arg1)) (m ((c : Thread nD τ).loc main_arg5)) (m ((c : Thread nD τ).loc main_arg6)) (m ((c : Thread nD τ).loc main_arg7)) i0 i1 i2).symm)

open Cert.CmpRefIdeal.Read (val_main_v47 val_main_v49) in
/-- THE RUN: both results are the reference's, and the arguments are unchanged. -/
theorem run (ρ : Dev nD → PrngReg) : θ_run defs (onTc (τ := τ) (main (F := Ideal))) ⟨m, fun _ => 0, ρ⟩ (fun r => ∀ c : Dev nD,
      r.2.mem ((c : Thread nD τ).loc main_v55) = (val_main_v47 (F := Ideal) (m ((c : Thread nD τ).loc main_arg0)) (m ((c : Thread nD τ).loc main_arg2)) (m ((c : Thread nD τ).loc main_arg3)) (m ((c : Thread nD τ).loc main_arg4)) : FVec Ideal S8x255x128 .bf16)
      ∧ r.2.mem ((c : Thread nD τ).loc main_v56) = (val_main_v49 (F := Ideal) (m ((c : Thread nD τ).loc main_arg1)) (m ((c : Thread nD τ).loc main_arg5)) (m ((c : Thread nD τ).loc main_arg6)) (m ((c : Thread nD τ).loc main_arg7)) : FVec Ideal S8x255x128 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨((h c).2 main_v55 (Pipeline.mem_restRefs_of main_v55 (by decide) (by decide))).trans (tail_k m c), ((h c).2 main_v56 (Pipeline.mem_restRefs_of main_v56 (by decide) (by decide))).trans (tail_v m c), ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m ρ)

end Cert.Proof.Cmp

end
-- ==== Proof.lean ====
/- The claim: the runs and the equalities of the modules under Proof/ put together. -/
module

public import proofs.«01_k».proof.Defs
public import proofs.«01_k».proof.Proof.Gen.FfnKernel.Frame
public import proofs.«01_k».proof.Proof.Gen.MergeKernel.Frame
public import proofs.«01_k».proof.Proof.Gen.RetKernel.Frame
public import proofs.«01_k».proof.Proof.Gen.InKernel.Frame
public import proofs.«01_k».proof.Proof.Gen.InKernel.Skeleton
public import proofs.«01_k».proof.Proof.Gen.InKernelIdeal.Frame
public import proofs.«01_k».proof.Proof.Gen.InRefIdeal.Run
public import proofs.«01_k».proof.Proof.Gen.InRefIdeal.Read
public import proofs.«01_k».proof.Proof.Gen.InKernelIdeal.Skeleton
public import proofs.«01_k».proof.Proof.Gen.RetKernelIdeal.Value
public import proofs.«01_k».proof.Proof.Gen.RetRefIdeal.Run
public import proofs.«01_k».proof.Proof.Gen.RetRefIdeal.Step
public import proofs.«01_k».proof.Proof.Gen.FfnRefIdeal.Run
public import proofs.«01_k».proof.Proof.Gen.MergeRefIdeal.Run
public import proofs.«01_k».proof.Proof.Gen.CmpKernel.Frame
public import proofs.«01_k».proof.Proof.Gen.CmpKernelIdeal.Frame
public import proofs.«01_k».proof.Proof.Gen.CmpKernelIdeal.Skeleton
public import proofs.«01_k».proof.Proof.Gen.CmpRefIdeal.Run
public import proofs.«01_k».proof.Proof.Gen.CmpRefIdeal.Read
public import proofs.«01_k».proof.Proof.FfnValue
public import proofs.«01_k».proof.Proof.MergeValue
public import proofs.«01_k».proof.Proof.RetValue
public import proofs.«01_k».proof.Proof.RetScan
public import proofs.«01_k».proof.Proof.InRunB
public import proofs.«01_k».proof.Proof.InValue
public import proofs.«01_k».proof.Proof.CmpValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The retention kernel leaves the reference's result, and both leave their arguments. -/
theorem ret [Cert.RetKernelIdeal.Facts] [Cert.RetRefIdeal.Facts] : Cert.algebraic_RetKernelIdeal_RetRefIdeal := by
  pair_intro
  · run_from Cert.RetKernelIdeal.Value.run m g
  · run_from Cert.Proof.RetRun.run m' g'
    obtain ⟨h0, h1⟩ := hagree c
    refine ((Cert.RetKernelIdeal.Value.final12 m c).symm.trans (Ret.final m c _ fun b s e v => ?_)).symm
    have h := RetRef.result_at m' c b s e v
    unfold RetRef.Zr RetRef.zr at h
    rw [h0, h1] at h
    exact h

/-- The feed-forward kernel leaves the reference's result, and both leave their arguments. -/
theorem ffn [Cert.FfnKernelIdeal.Facts] [Cert.FfnRefIdeal.Facts] : Cert.algebraic_FfnKernelIdeal_FfnRefIdeal := by
  pair_intro
  · run_from Cert.FfnKernelIdeal.Gen.run_main m g
  · run_from Cert.FfnRefIdeal.Value.run m' g'
    obtain ⟨h0, h1, h2, h3, h4⟩ := hagree c
    refine (Cert.FfnRefIdeal.Read.val_main_v31_eq _ _).trans ?_
    rw [h0, h1, h2, h3, h4]
    exact (Ffn.final m c).symm

/-- The merge kernel leaves the reference's result, and both leave their arguments. -/
theorem merge [Cert.MergeKernelIdeal.Facts] [Cert.MergeRefIdeal.Facts] : Cert.algebraic_MergeKernelIdeal_MergeRefIdeal := by
  pair_intro
  · run_from Cert.MergeKernelIdeal.Gen.run_main m g
  · run_from Cert.MergeRefIdeal.Value.run m' g'
    obtain ⟨h0, h1, h2, h3, h4, h5, h6, h7⟩ := hagree c
    refine (Cert.MergeRefIdeal.Read.val_main_v46_eq _ _ _ _ _ _ _ _).trans ?_
    rw [h3, h4, h5]
    exact (Merge.final m c).symm

/-- The input projection's kernel leaves the reference's results, and both leave their arguments. -/
theorem inp [Cert.InKernelIdeal.Facts] [Cert.InRefIdeal.Facts] : Cert.algebraic_InKernelIdeal_InRefIdeal := by
  pair_intro
  · run_from Cert.Proof.In.run m g
  · refine (θ_run _ _ _).mono (fun r h c => ?_) (Cert.InRefIdeal.Value.run m' g')
    obtain ⟨h0, h1, h2, -⟩ := hagree c
    obtain ⟨r0, r1, r2, r3, r4, hargs⟩ := h c
    refine ⟨r0.trans ((Cert.InRefIdeal.Read.val_main_v38_eq m' c).trans ?_), r1.trans ((Cert.InRefIdeal.Read.val_main_v16_eq _ _ _).trans ?_),
      r2.trans ((Cert.InRefIdeal.Read.val_main_v17_eq _ _ _).trans ?_), r3.trans ((Cert.InRefIdeal.Read.val_main_v42_eq _ _ _).trans ?_),
      r4.trans ((Cert.InRefIdeal.Read.val_main_v45_eq _ _ _).trans ?_), hargs⟩
    all_goals (rw [h0, h1, h2])

/-- The compression's kernel leaves the reference's results, and both leave their arguments. -/
theorem cmp [Cert.CmpKernelIdeal.Facts] [Cert.CmpRefIdeal.Facts] : Cert.algebraic_CmpKernelIdeal_CmpRefIdeal := by
  pair_intro
  · run_from Cert.Proof.Cmp.run m g
  · refine (θ_run _ _ _).mono (fun r h c => ?_) (Cert.CmpRefIdeal.Value.run m' g')
    obtain ⟨h0, h1, h2, h3, h4, h5, h6, h7⟩ := hagree c
    obtain ⟨r0, r1, hargs⟩ := h c
    refine ⟨r0.trans ((Cert.CmpRefIdeal.Read.val_main_v47_eq m' c).trans ?_), r1.trans ((Cert.CmpRefIdeal.Read.val_main_v49_eq m' c).trans ?_), hargs⟩
    · rw [h0, h2, h3, h4]
    · rw [h1, h5, h6, h7]

theorem claim : Cert.Claim := ⟨Cert.RetKernel.Gen.facts, Cert.RetKernelIdeal.Gen.facts, Cert.RetRefIdeal.Gen.facts,
  Cert.FfnKernel.Gen.facts, Cert.FfnKernelIdeal.Gen.facts, Cert.FfnRefIdeal.Gen.facts,
  Cert.MergeKernel.Gen.facts, Cert.MergeKernelIdeal.Gen.facts, Cert.MergeRefIdeal.Gen.facts,
  Cert.InKernel.Gen.facts, Cert.InKernelIdeal.Gen.facts, Cert.InRefIdeal.Gen.facts,
  Cert.CmpKernel.Gen.facts, Cert.CmpKernelIdeal.Gen.facts, Cert.CmpRefIdeal.Gen.facts, by
  refine ⟨fun m ρ _ => Cert.RetKernel.Gen.frame m ρ, fun m ρ _ => Cert.RetKernelIdeal.Gen.frame m ρ, ?_,
    fun m ρ _ => Cert.FfnKernel.Gen.frame m ρ, fun m ρ _ => Cert.FfnKernelIdeal.Gen.frame m ρ, ?_,
    fun m ρ _ => Cert.MergeKernel.Gen.frame m ρ, fun m ρ _ => Cert.MergeKernelIdeal.Gen.frame m ρ, ?_,
    fun m ρ _ => Cert.Proof.InRunB.frame m ρ, fun m ρ _ => Cert.Proof.InRun.frame m ρ, ?_,
    fun m ρ _ => Cert.CmpKernel.Gen.frame m ρ, fun m ρ _ => Cert.CmpKernelIdeal.Gen.frame m ρ, ?_,
    trivial, ret, trivial, ffn, trivial, merge, trivial, inp, trivial, cmp⟩
  · exact fun m ρ _ => (θ_run _ _ _).mono (fun r h => ⟨fun c => (h c).2, sem_eq_zero_of_no_sems (by decide) _⟩) (Cert.Proof.RetRun.run m ρ)
  · exact fun m ρ _ => (θ_run _ _ _).mono (fun r h => ⟨fun c => (h c).2, sem_eq_zero_of_no_sems (by decide) _⟩) (Cert.FfnRefIdeal.Value.run m ρ)
  · exact fun m ρ _ => (θ_run _ _ _).mono (fun r h => ⟨fun c => (h c).2, sem_eq_zero_of_no_sems (by decide) _⟩) (Cert.MergeRefIdeal.Value.run m ρ)
  · exact fun m ρ _ => (θ_run _ _ _).mono (fun r h => ⟨fun c => (h c).2.2.2.2.2, sem_eq_zero_of_no_sems (by decide) _⟩) (Cert.InRefIdeal.Value.run m ρ)
  · exact fun m ρ _ => (θ_run _ _ _).mono (fun r h => ⟨fun c => (h c).2.2, sem_eq_zero_of_no_sems (by decide) _⟩) (Cert.CmpRefIdeal.Value.run m ρ)⟩

end Cert.Proof

end
